-- ==== Defs.lean ====
def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def Pre_PowerGram (m : (ℓ : Loc Cert.PowerGram.nD Cert.PowerGram.τ Cert.PowerGram.sig) → Buf (Elt Bits) ℓ) : Prop :=
  True

def Pre_PowerGramIdeal (m : (ℓ : Loc Cert.PowerGramIdeal.nD Cert.PowerGramIdeal.τ Cert.PowerGramIdeal.sig) → Buf (Elt Ideal) ℓ) : Prop :=
  True

def Pre_PowerGramIdeal_finite [hPre_finite : Cert.Pre_finite.Facts] (m : (ℓ : Loc Cert.PowerGramIdeal.nD Cert.PowerGramIdeal.τ Cert.PowerGramIdeal.sig) → Buf (Elt Ideal) ℓ) : Prop :=
  ∀ c : Dev Cert.PowerGramIdeal.nD,
    (Cert.Pre_finite.fn (F := Ideal) (m ((c.tc : Thread Cert.PowerGramIdeal.nD Cert.PowerGramIdeal.τ).loc Cert.PowerGramIdeal.main_arg0)) (m ((c.tc : Thread Cert.PowerGramIdeal.nD Cert.PowerGramIdeal.τ).loc Cert.PowerGramIdeal.main_arg1))) = (fun _ => 1#1)

def Pre_PowerGramReferenceIdeal (m : (ℓ : Loc Cert.PowerGramReferenceIdeal.nD Cert.PowerGramReferenceIdeal.τ Cert.PowerGramReferenceIdeal.sig) → Buf (Elt Ideal) ℓ) : Prop :=
  True

def Pre_PowerGramReferenceIdeal_finite [hPre_finite : Cert.Pre_finite.Facts] (m : (ℓ : Loc Cert.PowerGramReferenceIdeal.nD Cert.PowerGramReferenceIdeal.τ Cert.PowerGramReferenceIdeal.sig) → Buf (Elt Ideal) ℓ) : Prop :=
  ∀ c : Dev Cert.PowerGramReferenceIdeal.nD,
    (Cert.Pre_finite.fn (F := Ideal) (m ((c.tc : Thread Cert.PowerGramReferenceIdeal.nD Cert.PowerGramReferenceIdeal.τ).loc Cert.PowerGramReferenceIdeal.main_arg0)) (m ((c.tc : Thread Cert.PowerGramReferenceIdeal.nD Cert.PowerGramReferenceIdeal.τ).loc Cert.PowerGramReferenceIdeal.main_arg1))) = (fun _ => 1#1)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3))
      ∧ r.2.sem = fun _ => 0)

def quiescent_PowerGram [hPowerGram : Cert.PowerGram.Facts] : Prop :=
  ∀ (m : (ℓ : Loc Cert.PowerGram.nD Cert.PowerGram.τ Cert.PowerGram.sig) → Buf (Elt Bits) ℓ) (g : Dev Cert.PowerGram.nD → PrngReg), Pre_PowerGram m →
    θ_run (Cert.PowerGram.defs (F := Bits)) (onTc (τ := Cert.PowerGram.τ) (Cert.PowerGram.main (F := Bits))) ⟨m, fun _ => 0, g⟩ (fun r => (∀ c : Dev Cert.PowerGram.nD,
      r.2.mem ((c.tc : Thread Cert.PowerGram.nD Cert.PowerGram.τ).loc Cert.PowerGram.main_arg0) = m ((c.tc : Thread Cert.PowerGram.nD Cert.PowerGram.τ).loc Cert.PowerGram.main_arg0)
      ∧ r.2.mem ((c.tc : Thread Cert.PowerGram.nD Cert.PowerGram.τ).loc Cert.PowerGram.main_arg1) = m ((c.tc : Thread Cert.PowerGram.nD Cert.PowerGram.τ).loc Cert.PowerGram.main_arg1))
      ∧ r.2.sem = fun _ => 0)

def quiescent_PowerGramIdeal [hPowerGramIdeal : Cert.PowerGramIdeal.Facts] : Prop :=
  ∀ (m : (ℓ : Loc Cert.PowerGramIdeal.nD Cert.PowerGramIdeal.τ Cert.PowerGramIdeal.sig) → Buf (Elt Ideal) ℓ) (g : Dev Cert.PowerGramIdeal.nD → PrngReg), Pre_PowerGramIdeal m →
    θ_run (Cert.PowerGramIdeal.defs (F := Ideal)) (onTc (τ := Cert.PowerGramIdeal.τ) (Cert.PowerGramIdeal.main (F := Ideal))) ⟨m, fun _ => 0, g⟩ (fun r => (∀ c : Dev Cert.PowerGramIdeal.nD,
      r.2.mem ((c.tc : Thread Cert.PowerGramIdeal.nD Cert.PowerGramIdeal.τ).loc Cert.PowerGramIdeal.main_arg0) = m ((c.tc : Thread Cert.PowerGramIdeal.nD Cert.PowerGramIdeal.τ).loc Cert.PowerGramIdeal.main_arg0)
      ∧ r.2.mem ((c.tc : Thread Cert.PowerGramIdeal.nD Cert.PowerGramIdeal.τ).loc Cert.PowerGramIdeal.main_arg1) = m ((c.tc : Thread Cert.PowerGramIdeal.nD Cert.PowerGramIdeal.τ).loc Cert.PowerGramIdeal.main_arg1))
      ∧ r.2.sem = fun _ => 0)

def quiescent_PowerGramIdeal_pre_finite [hPowerGramIdeal : Cert.PowerGramIdeal.Facts] [hPre_finite : Cert.Pre_finite.Facts] : Prop :=
  ∀ (m : (ℓ : Loc Cert.PowerGramIdeal.nD Cert.PowerGramIdeal.τ Cert.PowerGramIdeal.sig) → Buf (Elt Ideal) ℓ) (g : Dev Cert.PowerGramIdeal.nD → PrngReg), Pre_PowerGramIdeal_finite m →
    θ_run (Cert.PowerGramIdeal.defs (F := Ideal)) (onTc (τ := Cert.PowerGramIdeal.τ) (Cert.PowerGramIdeal.main (F := Ideal))) ⟨m, fun _ => 0, g⟩ (fun r => (∀ c : Dev Cert.PowerGramIdeal.nD,
      r.2.mem ((c.tc : Thread Cert.PowerGramIdeal.nD Cert.PowerGramIdeal.τ).loc Cert.PowerGramIdeal.main_arg0) = m ((c.tc : Thread Cert.PowerGramIdeal.nD Cert.PowerGramIdeal.τ).loc Cert.PowerGramIdeal.main_arg0)
      ∧ r.2.mem ((c.tc : Thread Cert.PowerGramIdeal.nD Cert.PowerGramIdeal.τ).loc Cert.PowerGramIdeal.main_arg1) = m ((c.tc : Thread Cert.PowerGramIdeal.nD Cert.PowerGramIdeal.τ).loc Cert.PowerGramIdeal.main_arg1))
      ∧ r.2.sem = fun _ => 0)

def quiescent_PowerGramReferenceIdeal [hPowerGramReferenceIdeal : Cert.PowerGramReferenceIdeal.Facts] : Prop :=
  ∀ (m : (ℓ : Loc Cert.PowerGramReferenceIdeal.nD Cert.PowerGramReferenceIdeal.τ Cert.PowerGramReferenceIdeal.sig) → Buf (Elt Ideal) ℓ) (g : Dev Cert.PowerGramReferenceIdeal.nD → PrngReg), Pre_PowerGramReferenceIdeal m →
    θ_run (Cert.PowerGramReferenceIdeal.defs (F := Ideal)) (onTc (τ := Cert.PowerGramReferenceIdeal.τ) (Cert.PowerGramReferenceIdeal.main (F := Ideal))) ⟨m, fun _ => 0, g⟩ (fun r => (∀ c : Dev Cert.PowerGramReferenceIdeal.nD,
      r.2.mem ((c.tc : Thread Cert.PowerGramReferenceIdeal.nD Cert.PowerGramReferenceIdeal.τ).loc Cert.PowerGramReferenceIdeal.main_arg0) = m ((c.tc : Thread Cert.PowerGramReferenceIdeal.nD Cert.PowerGramReferenceIdeal.τ).loc Cert.PowerGramReferenceIdeal.main_arg0)
      ∧ r.2.mem ((c.tc : Thread Cert.PowerGramReferenceIdeal.nD Cert.PowerGramReferenceIdeal.τ).loc Cert.PowerGramReferenceIdeal.main_arg1) = m ((c.tc : Thread Cert.PowerGramReferenceIdeal.nD Cert.PowerGramReferenceIdeal.τ).loc Cert.PowerGramReferenceIdeal.main_arg1))
      ∧ r.2.sem = fun _ => 0)

def quiescent_PowerGramReferenceIdeal_pre_finite [hPowerGramReferenceIdeal : Cert.PowerGramReferenceIdeal.Facts] [hPre_finite : Cert.Pre_finite.Facts] : Prop :=
  ∀ (m : (ℓ : Loc Cert.PowerGramReferenceIdeal.nD Cert.PowerGramReferenceIdeal.τ Cert.PowerGramReferenceIdeal.sig) → Buf (Elt Ideal) ℓ) (g : Dev Cert.PowerGramReferenceIdeal.nD → PrngReg), Pre_PowerGramReferenceIdeal_finite m →
    θ_run (Cert.PowerGramReferenceIdeal.defs (F := Ideal)) (onTc (τ := Cert.PowerGramReferenceIdeal.τ) (Cert.PowerGramReferenceIdeal.main (F := Ideal))) ⟨m, fun _ => 0, g⟩ (fun r => (∀ c : Dev Cert.PowerGramReferenceIdeal.nD,
      r.2.mem ((c.tc : Thread Cert.PowerGramReferenceIdeal.nD Cert.PowerGramReferenceIdeal.τ).loc Cert.PowerGramReferenceIdeal.main_arg0) = m ((c.tc : Thread Cert.PowerGramReferenceIdeal.nD Cert.PowerGramReferenceIdeal.τ).loc Cert.PowerGramReferenceIdeal.main_arg0)
      ∧ r.2.mem ((c.tc : Thread Cert.PowerGramReferenceIdeal.nD Cert.PowerGramReferenceIdeal.τ).loc Cert.PowerGramReferenceIdeal.main_arg1) = m ((c.tc : Thread Cert.PowerGramReferenceIdeal.nD Cert.PowerGramReferenceIdeal.τ).loc Cert.PowerGramReferenceIdeal.main_arg1))
      ∧ r.2.sem = fun _ => 0)

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)) →
    ∃ (v0 : (c : Dev Cert.FinishIdeal.nD) → Buf (Elt Ideal) ((c.tc : Thread Cert.FinishIdeal.nD Cert.FinishIdeal.τ).loc Cert.FinishIdeal.main_v0_0)) (v1 : (c : Dev Cert.FinishIdeal.nD) → Buf (Elt Ideal) ((c.tc : Thread Cert.FinishIdeal.nD Cert.FinishIdeal.τ).loc Cert.FinishIdeal.main_v0_1)) (v2 : (c : Dev Cert.FinishIdeal.nD) → Buf (Elt Ideal) ((c.tc : Thread Cert.FinishIdeal.nD Cert.FinishIdeal.τ).loc Cert.FinishIdeal.main_v0_2)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0_0) = v0 c
          ∧ r.2.mem ((c.tc : Thread Cert.FinishIdeal.nD Cert.FinishIdeal.τ).loc Cert.FinishIdeal.main_v0_1) = v1 c
          ∧ r.2.mem ((c.tc : Thread Cert.FinishIdeal.nD Cert.FinishIdeal.τ).loc Cert.FinishIdeal.main_v0_2) = v2 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v0_0) = v0 c
          ∧ r.2.mem ((c.tc : Thread Cert.FinishReferenceIdeal.nD Cert.FinishReferenceIdeal.τ).loc Cert.FinishReferenceIdeal.main_v0_1) = v1 c
          ∧ r.2.mem ((c.tc : Thread Cert.FinishReferenceIdeal.nD Cert.FinishReferenceIdeal.τ).loc Cert.FinishReferenceIdeal.main_v0_2) = v2 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3))

def preserves_PowerGram_PowerGramIdeal : Prop :=
  IdealRules.bf16_pack.Statement Cert.PowerGramIdeal.S256x2048
  ∧ IdealRules.bf16_pack.Statement Cert.PowerGramIdeal.S512x256

def algebraic_PowerGramIdeal_PowerGramReferenceIdeal_on_lower_blocks_pre_finite [hPowerGramIdeal : Cert.PowerGramIdeal.Facts] [hPowerGramReferenceIdeal : Cert.PowerGramReferenceIdeal.Facts] [hPre_finite : Cert.Pre_finite.Facts] [hOn_lower_blocks : Cert.On_lower_blocks.Facts] : Prop :=
  ∀ (m : (ℓ : Loc Cert.PowerGramIdeal.nD Cert.PowerGramIdeal.τ Cert.PowerGramIdeal.sig) → Buf (Elt Ideal) ℓ) (g : Dev Cert.PowerGramIdeal.nD → PrngReg)
    (m' : (ℓ : Loc Cert.PowerGramReferenceIdeal.nD Cert.PowerGramReferenceIdeal.τ Cert.PowerGramReferenceIdeal.sig) → Buf (Elt Ideal) ℓ) (g' : Dev Cert.PowerGramReferenceIdeal.nD → PrngReg), Pre_PowerGramIdeal_finite m →
    (∀ c : Dev Cert.PowerGramIdeal.nD,
      m' ((c.tc : Thread Cert.PowerGramReferenceIdeal.nD Cert.PowerGramReferenceIdeal.τ).loc Cert.PowerGramReferenceIdeal.main_arg0) = m ((c.tc : Thread Cert.PowerGramIdeal.nD Cert.PowerGramIdeal.τ).loc Cert.PowerGramIdeal.main_arg0)
      ∧ m' ((c.tc : Thread Cert.PowerGramReferenceIdeal.nD Cert.PowerGramReferenceIdeal.τ).loc Cert.PowerGramReferenceIdeal.main_arg1) = m ((c.tc : Thread Cert.PowerGramIdeal.nD Cert.PowerGramIdeal.τ).loc Cert.PowerGramIdeal.main_arg1)) →
    ∃ (v0 : (c : Dev Cert.PowerGramIdeal.nD) → Buf (Elt Ideal) ((c.tc : Thread Cert.PowerGramIdeal.nD Cert.PowerGramIdeal.τ).loc Cert.PowerGramIdeal.main_v0_0)) (v1 : (c : Dev Cert.PowerGramIdeal.nD) → Buf (Elt Ideal) ((c.tc : Thread Cert.PowerGramIdeal.nD Cert.PowerGramIdeal.τ).loc Cert.PowerGramIdeal.main_v0_1)),
      θ_run (Cert.PowerGramIdeal.defs (F := Ideal)) (onTc (τ := Cert.PowerGramIdeal.τ) (Cert.PowerGramIdeal.main (F := Ideal))) ⟨m, fun _ => 0, g⟩ (fun r => ∀ c : Dev Cert.PowerGramIdeal.nD,
          (∀ i : (⟨3, ![12, 2048, 2048]⟩ : Shape).Idx, (Cert.On_lower_blocks.fn (F := Ideal) (m ((c.tc : Thread Cert.PowerGramIdeal.nD Cert.PowerGramIdeal.τ).loc Cert.PowerGramIdeal.main_arg0)) (m ((c.tc : Thread Cert.PowerGramIdeal.nD Cert.PowerGramIdeal.τ).loc Cert.PowerGramIdeal.main_arg1))).1 i = 1#1 → r.2.mem ((c.tc : Thread Cert.PowerGramIdeal.nD Cert.PowerGramIdeal.τ).loc Cert.PowerGramIdeal.main_v0_0) i = v0 c i)
          ∧ (∀ i : (⟨3, ![12, 2048, 2048]⟩ : Shape).Idx, (Cert.On_lower_blocks.fn (F := Ideal) (m ((c.tc : Thread Cert.PowerGramIdeal.nD Cert.PowerGramIdeal.τ).loc Cert.PowerGramIdeal.main_arg0)) (m ((c.tc : Thread Cert.PowerGramIdeal.nD Cert.PowerGramIdeal.τ).loc Cert.PowerGramIdeal.main_arg1))).2 i = 1#1 → r.2.mem ((c.tc : Thread Cert.PowerGramIdeal.nD Cert.PowerGramIdeal.τ).loc Cert.PowerGramIdeal.main_v0_1) i = v1 c i)
          ∧ r.2.mem ((c.tc : Thread Cert.PowerGramIdeal.nD Cert.PowerGramIdeal.τ).loc Cert.PowerGramIdeal.main_arg0) = m ((c.tc : Thread Cert.PowerGramIdeal.nD Cert.PowerGramIdeal.τ).loc Cert.PowerGramIdeal.main_arg0)
          ∧ r.2.mem ((c.tc : Thread Cert.PowerGramIdeal.nD Cert.PowerGramIdeal.τ).loc Cert.PowerGramIdeal.main_arg1) = m ((c.tc : Thread Cert.PowerGramIdeal.nD Cert.PowerGramIdeal.τ).loc Cert.PowerGramIdeal.main_arg1))
      ∧ θ_run (Cert.PowerGramReferenceIdeal.defs (F := Ideal)) (onTc (τ := Cert.PowerGramReferenceIdeal.τ) (Cert.PowerGramReferenceIdeal.main (F := Ideal))) ⟨m', fun _ => 0, g'⟩ (fun r => ∀ c : Dev Cert.PowerGramReferenceIdeal.nD,
          (∀ i : (⟨3, ![12, 2048, 2048]⟩ : Shape).Idx, (Cert.On_lower_blocks.fn (F := Ideal) (m ((c.tc : Thread Cert.PowerGramIdeal.nD Cert.PowerGramIdeal.τ).loc Cert.PowerGramIdeal.main_arg0)) (m ((c.tc : Thread Cert.PowerGramIdeal.nD Cert.PowerGramIdeal.τ).loc Cert.PowerGramIdeal.main_arg1))).1 i = 1#1 → r.2.mem ((c.tc : Thread Cert.PowerGramReferenceIdeal.nD Cert.PowerGramReferenceIdeal.τ).loc Cert.PowerGramReferenceIdeal.main_v4) i = v0 c i)
          ∧ (∀ i : (⟨3, ![12, 2048, 2048]⟩ : Shape).Idx, (Cert.On_lower_blocks.fn (F := Ideal) (m ((c.tc : Thread Cert.PowerGramIdeal.nD Cert.PowerGramIdeal.τ).loc Cert.PowerGramIdeal.main_arg0)) (m ((c.tc : Thread Cert.PowerGramIdeal.nD Cert.PowerGramIdeal.τ).loc Cert.PowerGramIdeal.main_arg1))).2 i = 1#1 → r.2.mem ((c.tc : Thread Cert.PowerGramReferenceIdeal.nD Cert.PowerGramReferenceIdeal.τ).loc Cert.PowerGramReferenceIdeal.main_v6) i = v1 c i)
          ∧ r.2.mem ((c.tc : Thread Cert.PowerGramReferenceIdeal.nD Cert.PowerGramReferenceIdeal.τ).loc Cert.PowerGramReferenceIdeal.main_arg0) = m' ((c.tc : Thread Cert.PowerGramReferenceIdeal.nD Cert.PowerGramReferenceIdeal.τ).loc Cert.PowerGramReferenceIdeal.main_arg0)
          ∧ r.2.mem ((c.tc : Thread Cert.PowerGramReferenceIdeal.nD Cert.PowerGramReferenceIdeal.τ).loc Cert.PowerGramReferenceIdeal.main_arg1) = m' ((c.tc : Thread Cert.PowerGramReferenceIdeal.nD Cert.PowerGramReferenceIdeal.τ).loc Cert.PowerGramReferenceIdeal.main_arg1))

def Claim : Prop :=
  ∃ (hFinish : Cert.Finish.Facts) (hFinishIdeal : Cert.FinishIdeal.Facts) (hFinishReferenceIdeal : Cert.FinishReferenceIdeal.Facts) (hPowerGram : Cert.PowerGram.Facts) (hPowerGramIdeal : Cert.PowerGramIdeal.Facts) (hPowerGramReferenceIdeal : Cert.PowerGramReferenceIdeal.Facts) (hPre_finite : Cert.Pre_finite.Facts) (hOn_lower_blocks : Cert.On_lower_blocks.Facts),
    quiescent_Finish (hFinish := hFinish)
    ∧ quiescent_FinishIdeal (hFinishIdeal := hFinishIdeal)
    ∧ quiescent_FinishReferenceIdeal (hFinishReferenceIdeal := hFinishReferenceIdeal)
    ∧ quiescent_PowerGram (hPowerGram := hPowerGram)
    ∧ quiescent_PowerGramIdeal (hPowerGramIdeal := hPowerGramIdeal)
    ∧ quiescent_PowerGramIdeal_pre_finite (hPowerGramIdeal := hPowerGramIdeal) (hPre_finite := hPre_finite)
    ∧ quiescent_PowerGramReferenceIdeal (hPowerGramReferenceIdeal := hPowerGramReferenceIdeal)
    ∧ quiescent_PowerGramReferenceIdeal_pre_finite (hPowerGramReferenceIdeal := hPowerGramReferenceIdeal) (hPre_finite := hPre_finite)
    ∧ preserves_Finish_FinishIdeal
    ∧ algebraic_FinishIdeal_FinishReferenceIdeal (hFinishIdeal := hFinishIdeal) (hFinishReferenceIdeal := hFinishReferenceIdeal)
    ∧ preserves_PowerGram_PowerGramIdeal
    ∧ algebraic_PowerGramIdeal_PowerGramReferenceIdeal_on_lower_blocks_pre_finite (hPowerGramIdeal := hPowerGramIdeal) (hPowerGramReferenceIdeal := hPowerGramReferenceIdeal) (hPre_finite := hPre_finite) (hOn_lower_blocks := hOn_lower_blocks)
-- ==== On_lower_blocks.lean ====
abbrev S12x2048x2048 : Shape := ⟨3, ![12, 2048, 2048]⟩
abbrev S_ : Shape := ⟨0, ![]⟩

class Facts : Prop where
  bcast_S_S12x2048x2048 : S_.BroadcastsInDim S12x2048x2048 (![] : Fin 0 → Fin S12x2048x2048.rank)

variable [Facts]

def fn_where {F : FTy → Type} [FloatOps F] (arg0 : IVec S12x2048x2048 1) (arg1 : IVec S12x2048x2048 32) (arg2 : IVec S12x2048x2048 32) : IVec S12x2048x2048 32 :=
  let v0 : IVec S12x2048x2048 32 := select arg0 arg1 arg2
  v0

def fn_floor_divide {F : FTy → Type} [FloatOps F] (arg0 : IVec S12x2048x2048 32) (arg1 : IVec S_ 32) : IVec S12x2048x2048 32 :=
  let v0 : IVec S_ 32 := id arg1
  let v1 : IVec S12x2048x2048 32 := broadcastInDim S12x2048x2048 ![] bcast_S_S12x2048x2048 v0
  let v2 : IVec S12x2048x2048 32 := Host.divsi arg0 v1
  let v3 : IVec S12x2048x2048 32 := signi arg0
  let v4 : IVec S_ 32 := signi v0
  let v5 : IVec S12x2048x2048 32 := broadcastInDim S12x2048x2048 ![] bcast_S_S12x2048x2048 v4
  let v6 : IVec S12x2048x2048 1 := cmpi .ne v3 v5
  let v7 : IVec S12x2048x2048 32 := broadcastInDim S12x2048x2048 ![] bcast_S_S12x2048x2048 v0
  let v8 : IVec S12x2048x2048 32 := Host.remsi arg0 v7
  let c : IVec S_ 32 := constantI S_ 32 0#32
  let v9 : IVec S12x2048x2048 32 := broadcastInDim S12x2048x2048 ![] bcast_S_S12x2048x2048 c
  let v10 : IVec S12x2048x2048 1 := cmpi .ne v8 v9
  let v11 : IVec S12x2048x2048 1 := andi v6 v10
  let c_0 : IVec S_ 32 := constantI S_ 32 1#32
  let v12 : IVec S12x2048x2048 32 := broadcastInDim S12x2048x2048 ![] bcast_S_S12x2048x2048 c_0
  let v13 : IVec S12x2048x2048 32 := subi v2 v12
  let v14 : IVec S12x2048x2048 32 := fn_where (F := F) v11 v13 v2
  v14

def fn {F : FTy → Type} [FloatOps F] (main_arg0 : FVec F S12x2048x2048 .f32) (main_arg1 : FVec F S12x2048x2048 .bf16) : IVec S12x2048x2048 1 × IVec S12x2048x2048 1 :=
  let main_v0 : IVec S12x2048x2048 32 := iotaInDim S12x2048x2048 32 1
  let main_c : IVec S_ 32 := constantI S_ 32 512#32
  let main_v1 : IVec S12x2048x2048 32 := fn_floor_divide (F := F) main_v0 main_c
  let main_v2 : IVec S12x2048x2048 32 := iotaInDim S12x2048x2048 32 2
  let main_c_0 : IVec S_ 32 := constantI S_ 32 512#32
  let main_v3 : IVec S12x2048x2048 32 := fn_floor_divide (F := F) main_v2 main_c_0
  let main_c_1 : IVec S_ 1 := constantI S_ 1 1#1
  let main_v4 : IVec S12x2048x2048 1 := broadcastInDim S12x2048x2048 ![] bcast_S_S12x2048x2048 main_c_1
  let main_c_2 : IVec S_ 32 := constantI S_ 32 3#32
  let main_v5 : IVec S12x2048x2048 32 := broadcastInDim S12x2048x2048 ![] bcast_S_S12x2048x2048 main_c_2
  let main_v6 : IVec S12x2048x2048 32 := subi main_v5 main_v1
  let main_v7 : IVec S12x2048x2048 1 := cmpi .sle main_v3 main_v6
  (main_v4, main_v7)
-- ==== Pre_finite.lean ====
abbrev S12x2048x2048 : Shape := ⟨3, ![12, 2048, 2048]⟩
abbrev S_ : Shape := ⟨0, ![]⟩

class Facts : Prop where
  bcast_S_S12x2048x2048 : S_.BroadcastsInDim S12x2048x2048 (![] : Fin 0 → Fin S12x2048x2048.rank)
  reducesTo_S12x2048x2048_S_d0_1_2 : S12x2048x2048.ReducesTo [0, 1, 2] S_
  h_S_ : 0 < S_.numel
  bitsLt_bf16_f32 : FTy.bits .bf16 < FTy.bits .f32

variable [Facts]

def fn {F : FTy → Type} [FloatOps F] (main_arg0 : FVec F S12x2048x2048 .f32) (main_arg1 : FVec F S12x2048x2048 .bf16) : IVec S_ 1 :=
  let main_v0 : FVec F S12x2048x2048 .f32 := Host.absf main_arg0
  let main_cst : FVec F S_ .f32 := constant S_ .f32 0x7F800000#32
  let main_v1 : FVec F S12x2048x2048 .f32 := broadcastInDim S12x2048x2048 ![] bcast_S_S12x2048x2048 main_cst
  let main_v2 : IVec S12x2048x2048 1 := cmpf .olt main_v0 main_v1
  let main_c : IVec S_ 1 := constantI S_ 1 1#1
  let main_v3 : IVec S_ 1 := (fun x v => Host.reduce IntOp.andi x v reducesTo_S12x2048x2048_S_d0_1_2 h_S_) main_v2 main_c
  let main_v4 : FVec F S12x2048x2048 .f32 := (extf .f32 · bitsLt_bf16_f32) main_arg1
  let main_v5 : FVec F S12x2048x2048 .f32 := Host.absf main_v4
  let main_cst_0 : FVec F S_ .f32 := constant S_ .f32 0x7F800000#32
  let main_v6 : FVec F S12x2048x2048 .f32 := broadcastInDim S12x2048x2048 ![] bcast_S_S12x2048x2048 main_cst_0
  let main_v7 : IVec S12x2048x2048 1 := cmpf .olt main_v5 main_v6
  let main_c_1 : IVec S_ 1 := constantI S_ 1 1#1
  let main_v8 : IVec S_ 1 := (fun x v => Host.reduce IntOp.andi x v reducesTo_S12x2048x2048_S_d0_1_2 h_S_) main_v7 main_c_1
  let main_v9 : IVec S_ 1 := andi main_v3 main_v8
  main_v9
-- ==== Finish.lean ====
abbrev S12x3x2048x2048 : Shape := ⟨4, ![12, 3, 2048, 2048]⟩
abbrev S12x2048x2048 : Shape := ⟨3, ![12, 2048, 2048]⟩
abbrev S12x2048x768 : Shape := ⟨3, ![12, 2048, 768]⟩
abbrev S12x2048x3 : Shape := ⟨3, ![12, 2048, 3]⟩
abbrev S1x1x256x2048 : Shape := ⟨4, ![1, 1, 256, 2048]⟩
abbrev S1x2048x2048 : Shape := ⟨3, ![1, 2048, 2048]⟩
abbrev S1x2048x768 : Shape := ⟨3, ![1, 2048, 768]⟩
abbrev S1x2048x3 : Shape := ⟨3, ![1, 2048, 3]⟩
abbrev S1x2048x256 : Shape := ⟨3, ![1, 2048, 256]⟩
abbrev S1x256x768 : Shape := ⟨3, ![1, 256, 768]⟩
abbrev S1x256x3 : Shape := ⟨3, ![1, 256, 3]⟩
abbrev S2048x768 : Shape := ⟨2, ![2048, 768]⟩
abbrev S2048x3 : Shape := ⟨2, ![2048, 3]⟩
abbrev S2048x256 : Shape := ⟨2, ![2048, 256]⟩
abbrev S2048x1 : Shape := ⟨2, ![2048, 1]⟩
abbrev S256x2048 : Shape := ⟨2, ![256, 2048]⟩
abbrev S2048x2048 : Shape := ⟨2, ![2048, 2048]⟩
abbrev S256x768 : Shape := ⟨2, ![256, 768]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S256x3 : Shape := ⟨2, ![256, 3]⟩

abbrev nBuf : Space → Nat
  | .hbm => 7
  | .vmem => 15
  | .smem => 0
  | _ => 0

abbrev bufTy : (tb : Table) → Fin (tcTables nBuf tb) → BufTy
  | .hbm, ⟨0, _⟩ => ⟨S12x3x2048x2048, .bf16⟩
  | .hbm, ⟨1, _⟩ => ⟨S12x2048x2048, .bf16⟩
  | .hbm, ⟨2, _⟩ => ⟨S12x2048x768, .i8⟩
  | .hbm, ⟨3, _⟩ => ⟨S12x2048x3, .f32⟩
  | .hbm, ⟨4, _⟩ => ⟨S12x2048x2048, .bf16⟩
  | .hbm, ⟨5, _⟩ => ⟨S12x2048x768, .i8⟩
  | .hbm, ⟨6, _⟩ => ⟨S12x2048x3, .f32⟩
  | .local _ .vmem, ⟨0, _⟩ => ⟨S1x1x256x2048, .bf16⟩
  | .local _ .vmem, ⟨1, _⟩ => ⟨S1x1x256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x768, .i8⟩
  | .local _ .vmem, ⟨5, _⟩ => ⟨S1x2048x768, .i8⟩
  | .local _ .vmem, ⟨6, _⟩ => ⟨S1x2048x3, .f32⟩
  | .local _ .vmem, ⟨7, _⟩ => ⟨S1x2048x3, .f32⟩
  | .local _ .vmem, ⟨8, _⟩ => ⟨S1x2048x256, .bf16⟩
  | .local _ .vmem, ⟨9, _⟩ => ⟨S1x2048x256, .bf16⟩
  | .local _ .vmem, ⟨10, _⟩ => ⟨S1x256x768, .i8⟩
  | .local _ .vmem, ⟨11, _⟩ => ⟨S1x256x768, .i8⟩
  | .local _ .vmem, ⟨12, _⟩ => ⟨S1x256x3, .f32⟩
  | .local _ .vmem, ⟨13, _⟩ => ⟨S1x256x3, .f32⟩
  | .local _ .vmem, ⟨14, _⟩ => ⟨S2048x768, .bf16⟩
  | _, _ => ⟨S12x3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FinishReferenceIdeal.lean ====
abbrev S12x3x2048x2048 : Shape := ⟨4, ![12, 3, 2048, 2048]⟩
abbrev S12x2048x2048 : Shape := ⟨3, ![12, 2048, 2048]⟩
abbrev S12x2048x768 : Shape := ⟨3, ![12, 2048, 768]⟩
abbrev S12x2048x3 : Shape := ⟨3, ![12, 2048, 3]⟩
abbrev S12x1x2048x2048 : Shape := ⟨4, ![12, 1, 2048, 2048]⟩
abbrev S12x2048x3x256 : Shape := ⟨4, ![12, 2048, 3, 256]⟩
abbrev S12x2048x3x1 : Shape := ⟨4, ![12, 2048, 3, 1]⟩

abbrev nBuf : Space → Nat
  | .hbm => 7
  | .vmem => 7
  | .smem => 0
  | _ => 0

abbrev bufTy : (tb : Table) → Fin (tcTables nBuf tb) → BufTy
  | .hbm, ⟨0, _⟩ => ⟨S12x3x2048x2048, .bf16⟩
  | .hbm, ⟨1, _⟩ => ⟨S12x2048x2048, .bf16⟩
  | .hbm, ⟨2, _⟩ => ⟨S12x2048x768, .i8⟩
  | .hbm, ⟨3, _⟩ => ⟨S12x2048x3, .f32⟩
  | .hbm, ⟨4, _⟩ => ⟨S12x2048x2048, .bf16⟩
  | .hbm, ⟨5, _⟩ => ⟨S12x2048x768, .i8⟩
  | .hbm, ⟨6, _⟩ => ⟨S12x2048x3, .f32⟩
  | .local _ .vmem, ⟨0, _⟩ => ⟨S12x3x2048x2048, .bf16⟩
  | .local _ .vmem, ⟨1, _⟩ => ⟨S12x2048x2048, .bf16⟩
  | .local _ .vmem, ⟨2, _⟩ => ⟨S12x2048x768, .i8⟩
  | .local _ .vmem, ⟨3, _⟩ => ⟨S12x2048x3, .f32⟩
  | .local _ .vmem, ⟨4, _⟩ => ⟨S12x2048x2048, .bf16⟩
  | .local _ .vmem, ⟨5, _⟩ => ⟨S12x2048x768, .i8⟩
  | .local _ .vmem, ⟨6, _⟩ => ⟨S12x2048x3, .f32⟩
  | _, _ => ⟨S12x3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x3x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x2048x768 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2048x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== PowerGram.lean ====
abbrev S12x2048x2048 : Shape := ⟨3, ![12, 2048, 2048]⟩
abbrev S1x256x2048 : Shape := ⟨3, ![1, 256, 2048]⟩
abbrev S1x2048x2048 : Shape := ⟨3, ![1, 2048, 2048]⟩
abbrev S1x2048x256 : Shape := ⟨3, ![1, 2048, 256]⟩
abbrev S1x512x512 : Shape := ⟨3, ![1, 512, 512]⟩
abbrev S256x6144 : Shape := ⟨2, ![256, 6144]⟩
abbrev S3x2048x2048 : Shape := ⟨3, ![3, 2048, 2048]⟩
abbrev S256x2048 : Shape := ⟨2, ![256, 2048]⟩
abbrev S1x2048x512 : Shape := ⟨3, ![1, 2048, 512]⟩
abbrev S2048x512 : Shape := ⟨2, ![2048, 512]⟩
abbrev S256x4096 : Shape := ⟨2, ![256, 4096]⟩
abbrev S4096x512 : Shape := ⟨2, ![4096, 512]⟩
abbrev S256x512 : Shape := ⟨2, ![256, 512]⟩
abbrev S512x256 : Shape := ⟨2, ![512, 256]⟩
abbrev S1x512x256 : Shape := ⟨3, ![1, 512, 256]⟩
abbrev S1x512x2048 : Shape := ⟨3, ![1, 512, 2048]⟩
abbrev S512x2048 : Shape := ⟨2, ![512, 2048]⟩
abbrev S512x512 : Shape := ⟨2, ![512, 512]⟩
abbrev S1x256x512 : Shape := ⟨3, ![1, 256, 512]⟩

abbrev nBuf : Space → Nat
  | .hbm => 4
  | .vmem => 11
  | .smem => 0
  | _ => 0

abbrev bufTy : (tb : Table) → Fin (tcTables nBuf tb) → BufTy
  | .hbm, ⟨0, _⟩ => ⟨S12x2048x2048, .f32⟩
  | .hbm, ⟨1, _⟩ => ⟨S12x2048x2048, .bf16⟩
  | .hbm, ⟨2, _⟩ => ⟨S12x2048x2048, .f32⟩
  | .hbm, ⟨3, _⟩ => ⟨S12x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x256, .f32⟩
  | .local _ .vmem, ⟨5, _⟩ => ⟨S1x2048x256, .f32⟩
  | .local _ .vmem, ⟨6, _⟩ => ⟨S1x512x512, .f32⟩
  | .local _ .vmem, ⟨7, _⟩ => ⟨S1x512x512, .f32⟩
  | .local _ .vmem, ⟨8, _⟩ => ⟨S256x6144, .bf16⟩
  | .local _ .vmem, ⟨9, _⟩ => ⟨S3x2048x2048, .bf16⟩
  | .local _ .vmem, ⟨10, _⟩ => ⟨S256x2048, .f32⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![12, 26], ![false, false]⟩

def k0_cond2 (i : grid0.Coords) : BitVec 1 :=
  let arg1 : BitVec 32 := BitVec.ofNat 32 (i 1).val
  let c16_i32_1 : BitVec 32 := 16#32
  let v7 : BitVec 1 := Scalar.cmpi .slt arg1 c16_i32_1
  let c1_i32 : BitVec 32 := 1#32
  let v0 : BitVec 32 := Scalar.andi arg1 c1_i32
  let c1_i32_0 : BitVec 32 := 1#32
  let v1 : BitVec 1 := Scalar.cmpi .eq v0 c1_i32_0
  let v8 : BitVec 1 := Scalar.andi v7 v1
  let v9 : BitVec 32 := Scalar.extui v8
  let c0_i32_2 : BitVec 32 := 0#32
  let v10 : BitVec 1 := Scalar.cmpi .ne v9 c0_i32_2
  v10

def k0_mult1 (i : grid0.Coords) : BitVec 32 :=
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  v60
def k0_off1 (i : grid0.Coords) : Fin 3 → Nat :=
  let c0_30 : Index := 0#32
  let c0_31 : Index := 0#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v82 : Index := Scalar.indexCast v61
  ![0, 0, v82.toNat]
def k0_off2 (i : grid0.Coords) : Fin 3 → Nat :=
  let c1 : Index := 1#32
  let c0_32 : Index := 0#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v86 : Index := Scalar.indexCast v61
  ![1, 0, v86.toNat]
def k0_off3 (i : grid0.Coords) : Fin 3 → Nat :=
  let c2 : Index := 2#32
  let c0_33 : Index := 0#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v90 : Index := Scalar.indexCast v61
  ![2, 0, v90.toNat]
def k0_off4 (i : grid0.Coords) : Fin 3 → Nat :=
  let c0_45 : Index := 0#32
  let c512_46 : Index := 512#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v114 : Index := Scalar.indexCast v61
  ![0, 512, v114.toNat]
def k0_off5 (i : grid0.Coords) : Fin 3 → Nat :=
  let c1_47 : Index := 1#32
  let c512_48 : Index := 512#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v118 : Index := Scalar.indexCast v61
  ![1, 512, v118.toNat]
def k0_off6 (i : grid0.Coords) : Fin 3 → Nat :=
  let c2_49 : Index := 2#32
  let c512_50 : Index := 512#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v122 : Index := Scalar.indexCast v61
  ![2, 512, v122.toNat]
def k0_off7 (i : grid0.Coords) : Fin 3 → Nat :=
  let c0_62 : Index := 0#32
  let c1024_63 : Index := 1024#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v146 : Index := Scalar.indexCast v61
  ![0, 1024, v146.toNat]
def k0_off8 (i : grid0.Coords) : Fin 3 → Nat :=
  let c1_64 : Index := 1#32
  let c1024_65 : Index := 1024#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v150 : Index := Scalar.indexCast v61
  ![1, 1024, v150.toNat]
def k0_off9 (i : grid0.Coords) : Fin 3 → Nat :=
  let c2_66 : Index := 2#32
  let c1024_67 : Index := 1024#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v154 : Index := Scalar.indexCast v61
  ![2, 1024, v154.toNat]
def k0_off10 (i : grid0.Coords) : Fin 3 → Nat :=
  let c0_79 : Index := 0#32
  let c1536_80 : Index := 1536#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v178 : Index := Scalar.indexCast v61
  ![0, 1536, v178.toNat]
def k0_off11 (i : grid0.Coords) : Fin 3 → Nat :=
  let c1_81 : Index := 1#32
  let c1536_82 : Index := 1536#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v182 : Index := Scalar.indexCast v61
  ![1, 1536, v182.toNat]
def k0_off12 (i : grid0.Coords) : Fin 3 → Nat :=
  let c2_83 : Index := 2#32
  let c1536_84 : Index := 1536#32
  let arg1 : BitVec 32 := BitVec.ofNat 32 (i 1).val
  let c1_i32_21 : BitVec 32 := 1#32
  let v59 : BitVec 32 := Scalar.shrui arg1 c1_i32_21
  let c256_i32 : BitVec 32 := 256#32
  let v60 : BitVec 32 := Scalar.muli v59 c256_i32
  let v61 : BitVec 32 := v60
  let v186 : Index := Scalar.indexCast v61
  ![2, 1536, v186.toNat]
def k0_mult2 (i : grid0.Coords) : BitVec 32 :=
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  v42
def k0_mult3 (i : grid0.Coords) : BitVec 32 :=
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c0_i32_6 : BitVec 32 := 0#32
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c1_i32_7 : BitVec 32 := 1#32
  let v22 : BitVec 32 := Scalar.addi v21 c1_i32_7
  let v23 : BitVec 32 := Scalar.muli v21 v22
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c2_i32 : BitVec 32 := 2#32
  let c0_i32_10 : BitVec 32 := 0#32
  let v30 : BitVec 1 := Scalar.cmpi .sgt c2_i32 c0_i32_10
  let v31 : BitVec 32 := Scalar.extui v30
  let c0_i32_11 : BitVec 32 := 0#32
  let v32 : BitVec 1 := Scalar.cmpi .slt c2_i32 c0_i32_11
  let v33 : BitVec 32 := Scalar.extui v32
  let v34 : BitVec 32 := Scalar.subi v31 v33
  let v35 : BitVec 1 := Scalar.cmpi .ne v29 v34
  let v36 : BitVec 32 := Scalar.remsi v23 c2_i32
  let c0_i32_12 : BitVec 32 := 0#32
  let v37 : BitVec 1 := Scalar.cmpi .ne v36 c0_i32_12
  let v38 : BitVec 1 := Scalar.andi v35 v37
  let v24 : BitVec 32 := Scalar.divsi v23 c2_i32
  let c1_i32_13 : BitVec 32 := 1#32
  let v39 : BitVec 32 := Scalar.subi v24 c1_i32_13
  let v40 : BitVec 32 := Scalar.select v38 v39 v24
  let v41 : BitVec 32 := Scalar.subi v12 v40
  let c512_i32_14 : BitVec 32 := 512#32
  let v44 : BitVec 32 := Scalar.muli v41 c512_i32_14
  v44
def k0_cond3 (i : grid0.Coords) : BitVec 1 :=
  let arg1 : BitVec 32 := BitVec.ofNat 32 (i 1).val
  let c16_i32_15 : BitVec 32 := 16#32
  let v46 : BitVec 1 := Scalar.cmpi .sge arg1 c16_i32_15
  let c0_i32_6 : BitVec 32 := 0#32
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c1_i32_7 : BitVec 32 := 1#32
  let v22 : BitVec 32 := Scalar.addi v21 c1_i32_7
  let v23 : BitVec 32 := Scalar.muli v21 v22
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c2_i32 : BitVec 32 := 2#32
  let c0_i32_10 : BitVec 32 := 0#32
  let v30 : BitVec 1 := Scalar.cmpi .sgt c2_i32 c0_i32_10
  let v31 : BitVec 32 := Scalar.extui v30
  let c0_i32_11 : BitVec 32 := 0#32
  let v32 : BitVec 1 := Scalar.cmpi .slt c2_i32 c0_i32_11
  let v33 : BitVec 32 := Scalar.extui v32
  let v34 : BitVec 32 := Scalar.subi v31 v33
  let v35 : BitVec 1 := Scalar.cmpi .ne v29 v34
  let v36 : BitVec 32 := Scalar.remsi v23 c2_i32
  let c0_i32_12 : BitVec 32 := 0#32
  let v37 : BitVec 1 := Scalar.cmpi .ne v36 c0_i32_12
  let v38 : BitVec 1 := Scalar.andi v35 v37
  let v24 : BitVec 32 := Scalar.divsi v23 c2_i32
  let c1_i32_13 : BitVec 32 := 1#32
  let v39 : BitVec 32 := Scalar.subi v24 c1_i32_13
  let v40 : BitVec 32 := Scalar.select v38 v39 v24
  let v41 : BitVec 32 := Scalar.subi v12 v40
  let v47 : BitVec 1 := Scalar.cmpi .ne v21 v41
  let v48 : BitVec 1 := Scalar.andi v46 v47
  let v49 : BitVec 32 := Scalar.extui v48
  let c0_i32_16 : BitVec 32 := 0#32
  let v50 : BitVec 1 := Scalar.cmpi .ne v49 c0_i32_16
  v50

def k0_off13 (i : grid0.Coords) : Fin 3 → Nat :=
  let c0 : Index := 0#32
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  let v43 : BitVec 32 := v42
  let v59 : Index := Scalar.indexCast v43
  let c0_21 : Index := 0#32
  ![0, v59.toNat, 0]
def k0_off14 (i : grid0.Coords) : Fin 3 → Nat :=
  let c1 : Index := 1#32
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  let v43 : BitVec 32 := v42
  let v62 : Index := Scalar.indexCast v43
  let c0_22 : Index := 0#32
  ![1, v62.toNat, 0]
def k0_off15 (i : grid0.Coords) : Fin 3 → Nat :=
  let c2 : Index := 2#32
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  let v43 : BitVec 32 := v42
  let v65 : Index := Scalar.indexCast v43
  let c0_23 : Index := 0#32
  ![2, v65.toNat, 0]
def k0_off16 (i : grid0.Coords) : Fin 3 → Nat :=
  let c0_24 : Index := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c0_i32_6 : BitVec 32 := 0#32
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c1_i32_7 : BitVec 32 := 1#32
  let v22 : BitVec 32 := Scalar.addi v21 c1_i32_7
  let v23 : BitVec 32 := Scalar.muli v21 v22
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c2_i32 : BitVec 32 := 2#32
  let c0_i32_10 : BitVec 32 := 0#32
  let v30 : BitVec 1 := Scalar.cmpi .sgt c2_i32 c0_i32_10
  let v31 : BitVec 32 := Scalar.extui v30
  let c0_i32_11 : BitVec 32 := 0#32
  let v32 : BitVec 1 := Scalar.cmpi .slt c2_i32 c0_i32_11
  let v33 : BitVec 32 := Scalar.extui v32
  let v34 : BitVec 32 := Scalar.subi v31 v33
  let v35 : BitVec 1 := Scalar.cmpi .ne v29 v34
  let v36 : BitVec 32 := Scalar.remsi v23 c2_i32
  let c0_i32_12 : BitVec 32 := 0#32
  let v37 : BitVec 1 := Scalar.cmpi .ne v36 c0_i32_12
  let v38 : BitVec 1 := Scalar.andi v35 v37
  let v24 : BitVec 32 := Scalar.divsi v23 c2_i32
  let c1_i32_13 : BitVec 32 := 1#32
  let v39 : BitVec 32 := Scalar.subi v24 c1_i32_13
  let v40 : BitVec 32 := Scalar.select v38 v39 v24
  let v41 : BitVec 32 := Scalar.subi v12 v40
  let c512_i32_14 : BitVec 32 := 512#32
  let v44 : BitVec 32 := Scalar.muli v41 c512_i32_14
  let v45 : BitVec 32 := v44
  let v68 : Index := Scalar.indexCast v45
  let c0_25 : Index := 0#32
  ![0, v68.toNat, 0]
def k0_off17 (i : grid0.Coords) : Fin 3 → Nat :=
  let c1_26 : Index := 1#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c0_i32_6 : BitVec 32 := 0#32
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c1_i32_7 : BitVec 32 := 1#32
  let v22 : BitVec 32 := Scalar.addi v21 c1_i32_7
  let v23 : BitVec 32 := Scalar.muli v21 v22
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c2_i32 : BitVec 32 := 2#32
  let c0_i32_10 : BitVec 32 := 0#32
  let v30 : BitVec 1 := Scalar.cmpi .sgt c2_i32 c0_i32_10
  let v31 : BitVec 32 := Scalar.extui v30
  let c0_i32_11 : BitVec 32 := 0#32
  let v32 : BitVec 1 := Scalar.cmpi .slt c2_i32 c0_i32_11
  let v33 : BitVec 32 := Scalar.extui v32
  let v34 : BitVec 32 := Scalar.subi v31 v33
  let v35 : BitVec 1 := Scalar.cmpi .ne v29 v34
  let v36 : BitVec 32 := Scalar.remsi v23 c2_i32
  let c0_i32_12 : BitVec 32 := 0#32
  let v37 : BitVec 1 := Scalar.cmpi .ne v36 c0_i32_12
  let v38 : BitVec 1 := Scalar.andi v35 v37
  let v24 : BitVec 32 := Scalar.divsi v23 c2_i32
  let c1_i32_13 : BitVec 32 := 1#32
  let v39 : BitVec 32 := Scalar.subi v24 c1_i32_13
  let v40 : BitVec 32 := Scalar.select v38 v39 v24
  let v41 : BitVec 32 := Scalar.subi v12 v40
  let c512_i32_14 : BitVec 32 := 512#32
  let v44 : BitVec 32 := Scalar.muli v41 c512_i32_14
  let v45 : BitVec 32 := v44
  let v71 : Index := Scalar.indexCast v45
  let c0_27 : Index := 0#32
  ![1, v71.toNat, 0]
def k0_off18 (i : grid0.Coords) : Fin 3 → Nat :=
  let c2_28 : Index := 2#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c0_i32_6 : BitVec 32 := 0#32
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c1_i32_7 : BitVec 32 := 1#32
  let v22 : BitVec 32 := Scalar.addi v21 c1_i32_7
  let v23 : BitVec 32 := Scalar.muli v21 v22
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c2_i32 : BitVec 32 := 2#32
  let c0_i32_10 : BitVec 32 := 0#32
  let v30 : BitVec 1 := Scalar.cmpi .sgt c2_i32 c0_i32_10
  let v31 : BitVec 32 := Scalar.extui v30
  let c0_i32_11 : BitVec 32 := 0#32
  let v32 : BitVec 1 := Scalar.cmpi .slt c2_i32 c0_i32_11
  let v33 : BitVec 32 := Scalar.extui v32
  let v34 : BitVec 32 := Scalar.subi v31 v33
  let v35 : BitVec 1 := Scalar.cmpi .ne v29 v34
  let v36 : BitVec 32 := Scalar.remsi v23 c2_i32
  let c0_i32_12 : BitVec 32 := 0#32
  let v37 : BitVec 1 := Scalar.cmpi .ne v36 c0_i32_12
  let v38 : BitVec 1 := Scalar.andi v35 v37
  let v24 : BitVec 32 := Scalar.divsi v23 c2_i32
  let c1_i32_13 : BitVec 32 := 1#32
  let v39 : BitVec 32 := Scalar.subi v24 c1_i32_13
  let v40 : BitVec 32 := Scalar.select v38 v39 v24
  let v41 : BitVec 32 := Scalar.subi v12 v40
  let c512_i32_14 : BitVec 32 := 512#32
  let v44 : BitVec 32 := Scalar.muli v41 c512_i32_14
  let v45 : BitVec 32 := v44
  let v74 : Index := Scalar.indexCast v45
  let c0_29 : Index := 0#32
  ![2, v74.toNat, 0]
def k0_cond4 (i : grid0.Coords) : BitVec 1 :=
  let arg1 : BitVec 32 := BitVec.ofNat 32 (i 1).val
  let c16_i32_17 : BitVec 32 := 16#32
  let v51 : BitVec 1 := Scalar.cmpi .sge arg1 c16_i32_17
  let c0_i32_6 : BitVec 32 := 0#32
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c1_i32_7 : BitVec 32 := 1#32
  let v22 : BitVec 32 := Scalar.addi v21 c1_i32_7
  let v23 : BitVec 32 := Scalar.muli v21 v22
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c2_i32 : BitVec 32 := 2#32
  let c0_i32_10 : BitVec 32 := 0#32
  let v30 : BitVec 1 := Scalar.cmpi .sgt c2_i32 c0_i32_10
  let v31 : BitVec 32 := Scalar.extui v30
  let c0_i32_11 : BitVec 32 := 0#32
  let v32 : BitVec 1 := Scalar.cmpi .slt c2_i32 c0_i32_11
  let v33 : BitVec 32 := Scalar.extui v32
  let v34 : BitVec 32 := Scalar.subi v31 v33
  let v35 : BitVec 1 := Scalar.cmpi .ne v29 v34
  let v36 : BitVec 32 := Scalar.remsi v23 c2_i32
  let c0_i32_12 : BitVec 32 := 0#32
  let v37 : BitVec 1 := Scalar.cmpi .ne v36 c0_i32_12
  let v38 : BitVec 1 := Scalar.andi v35 v37
  let v24 : BitVec 32 := Scalar.divsi v23 c2_i32
  let c1_i32_13 : BitVec 32 := 1#32
  let v39 : BitVec 32 := Scalar.subi v24 c1_i32_13
  let v40 : BitVec 32 := Scalar.select v38 v39 v24
  let v41 : BitVec 32 := Scalar.subi v12 v40
  let v52 : BitVec 1 := Scalar.cmpi .eq v21 v41
  let v53 : BitVec 1 := Scalar.andi v51 v52
  let v54 : BitVec 32 := Scalar.extui v53
  let c0_i32_18 : BitVec 32 := 0#32
  let v55 : BitVec 1 := Scalar.cmpi .ne v54 c0_i32_18
  v55

def k0_off19 (i : grid0.Coords) : Fin 3 → Nat :=
  let c0 : Index := 0#32
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  let v43 : BitVec 32 := v42
  let v59 : Index := Scalar.indexCast v43
  let c0_21 : Index := 0#32
  ![0, v59.toNat, 0]
def k0_off20 (i : grid0.Coords) : Fin 3 → Nat :=
  let c1 : Index := 1#32
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  let v43 : BitVec 32 := v42
  let v62 : Index := Scalar.indexCast v43
  let c0_22 : Index := 0#32
  ![1, v62.toNat, 0]
def k0_off21 (i : grid0.Coords) : Fin 3 → Nat :=
  let c2 : Index := 2#32
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  let v43 : BitVec 32 := v42
  let v65 : Index := Scalar.indexCast v43
  let c0_23 : Index := 0#32
  ![2, v65.toNat, 0]
def k0_cond5 (i : grid0.Coords) : BitVec 1 :=
  let arg1 : BitVec 32 := BitVec.ofNat 32 (i 1).val
  let c16_i32_19 : BitVec 32 := 16#32
  let v56 : BitVec 1 := Scalar.cmpi .sge arg1 c16_i32_19
  let v57 : BitVec 32 := Scalar.extui v56
  let c0_i32_20 : BitVec 32 := 0#32
  let v58 : BitVec 1 := Scalar.cmpi .ne v57 c0_i32_20
  v58

def k0_off22 (i : grid0.Coords) : Fin 3 → Nat :=
  let c0 : Index := 0#32
  let c0_i32_6 : BitVec 32 := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c512_i32 : BitVec 32 := 512#32
  let v42 : BitVec 32 := Scalar.muli v21 c512_i32
  let v43 : BitVec 32 := v42
  let v59 : Index := Scalar.indexCast v43
  let c0_21 : Index := 0#32
  ![0, v59.toNat, 0]
def k0_off23 (i : grid0.Coords) : Fin 3 → Nat :=
  let c0_22 : Index := 0#32
  let arg1 : BitVec 32 := BitVec.ofNat 32 (i 1).val
  let c16_i32_3 : BitVec 32 := 16#32
  let v11 : BitVec 32 := Scalar.subi arg1 c16_i32_3
  let c0_i32_4 : BitVec 32 := 0#32
  let v12 : BitVec 32 := Scalar.maxsi v11 c0_i32_4
  let c0_i32_6 : BitVec 32 := 0#32
  let c1_i32_5 : BitVec 32 := 1#32
  let v13 : BitVec 1 := Scalar.cmpi .sge v12 c1_i32_5
  let v14 : BitVec 32 := Scalar.extui v13
  let v15 : BitVec 32 := Scalar.addi c0_i32_6 v14
  let c3_i32 : BitVec 32 := 3#32
  let v16 : BitVec 1 := Scalar.cmpi .sge v12 c3_i32
  let v17 : BitVec 32 := Scalar.extui v16
  let v18 : BitVec 32 := Scalar.addi v15 v17
  let c6_i32 : BitVec 32 := 6#32
  let v19 : BitVec 1 := Scalar.cmpi .sge v12 c6_i32
  let v20 : BitVec 32 := Scalar.extui v19
  let v21 : BitVec 32 := Scalar.addi v18 v20
  let c1_i32_7 : BitVec 32 := 1#32
  let v22 : BitVec 32 := Scalar.addi v21 c1_i32_7
  let v23 : BitVec 32 := Scalar.muli v21 v22
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c2_i32 : BitVec 32 := 2#32
  let c0_i32_10 : BitVec 32 := 0#32
  let v30 : BitVec 1 := Scalar.cmpi .sgt c2_i32 c0_i32_10
  let v31 : BitVec 32 := Scalar.extui v30
  let c0_i32_11 : BitVec 32 := 0#32
  let v32 : BitVec 1 := Scalar.cmpi .slt c2_i32 c0_i32_11
  let v33 : BitVec 32 := Scalar.extui v32
  let v34 : BitVec 32 := Scalar.subi v31 v33
  let v35 : BitVec 1 := Scalar.cmpi .ne v29 v34
  let v36 : BitVec 32 := Scalar.remsi v23 c2_i32
  let c0_i32_12 : BitVec 32 := 0#32
  let v37 : BitVec 1 := Scalar.cmpi .ne v36 c0_i32_12
  let v38 : BitVec 1 := Scalar.andi v35 v37
  let v24 : BitVec 32 := Scalar.divsi v23 c2_i32
  let c1_i32_13 : BitVec 32 := 1#32
  let v39 : BitVec 32 := Scalar.subi v24 c1_i32_13
  let v40 : BitVec 32 := Scalar.select v38 v39 v24
  let v41 : BitVec 32 := Scalar.subi v12 v40
  let c512_i32_14 : BitVec 32 := 512#32
  let v44 : BitVec 32 := Scalar.muli v41 c512_i32_14
  let v45 : BitVec 32 := v44
  let v62 : Index := Scalar.indexCast v45
  let c0_23 : Index := 0#32
  ![0, v62.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.shrui arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.shrui arg1 c1_i32
  let c7_i32 : BitVec 32 := 7#32
  let v1 : BitVec 32 := Scalar.minsi v0 c7_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32 : BitVec 32 := 1#32
  let v2 : BitVec 1 := Scalar.cmpi .sge v1 c1_i32
  let v3 : BitVec 32 := Scalar.extui v2
  let c0_i32_0 : BitVec 32 := 0#32
  let v4 : BitVec 32 := Scalar.addi c0_i32_0 v3
  let c3_i32 : BitVec 32 := 3#32
  let v5 : BitVec 1 := Scalar.cmpi .sge v1 c3_i32
  let v6 : BitVec 32 := Scalar.extui v5
  let v7 : BitVec 32 := Scalar.addi v4 v6
  let c6_i32 : BitVec 32 := 6#32
  let v8 : BitVec 1 := Scalar.cmpi .sge v1 c6_i32
  let v9 : BitVec 32 := Scalar.extui v8
  let v10 : BitVec 32 := Scalar.addi v7 v9
  let c1_i32_1 : BitVec 32 := 1#32
  let v11 : BitVec 32 := Scalar.addi v10 c1_i32_1
  let v12 : BitVec 32 := Scalar.muli v10 v11
  let c2_i32 : BitVec 32 := 2#32
  let v13 : BitVec 32 := Scalar.divsi v12 c2_i32
  let c0_i32_2 : BitVec 32 := 0#32
  let v14 : BitVec 1 := Scalar.cmpi .sgt v12 c0_i32_2
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c0_i32_4 : BitVec 32 := 0#32
  let v19 : BitVec 1 := Scalar.cmpi .sgt c2_i32 c0_i32_4
  let v20 : BitVec 32 := Scalar.extui v19
  let c0_i32_5 : BitVec 32 := 0#32
  let v21 : BitVec 1 := Scalar.cmpi .slt c2_i32 c0_i32_5
  let v22 : BitVec 32 := Scalar.extui v21
  let v23 : BitVec 32 := Scalar.subi v20 v22
  let v24 : BitVec 1 := Scalar.cmpi .ne v18 v23
  let v25 : BitVec 32 := Scalar.remsi v12 c2_i32
  let c0_i32_6 : BitVec 32 := 0#32
  let v26 : BitVec 1 := Scalar.cmpi .ne v25 c0_i32_6
  let v27 : BitVec 1 := Scalar.andi v24 v26
  let c1_i32_7 : BitVec 32 := 1#32
  let v28 : BitVec 32 := Scalar.subi v13 c1_i32_7
  let v29 : BitVec 32 := Scalar.select v27 v28 v13
  let v30 : BitVec 32 := Scalar.subi v1 v29
  let c3_i32_8 : BitVec 32 := 3#32
  let v31 : BitVec 32 := Scalar.subi c3_i32_8 v10
  let c0_i32_9 : BitVec 32 := 0#32
  ![arg0.toNat, v31.toNat, v30.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PowerGramIdeal.lean ====
variable {F : FTy → Type} [FloatOps F]
-- ==== PowerGramReferenceIdeal.lean ====
abbrev S12x2048x2048 : Shape := ⟨3, ![12, 2048, 2048]⟩
abbrev S12x8x256x2048 : Shape := ⟨4, ![12, 8, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S12x2048x2048, .bf16⟩
  | .hbm, ⟨2, _⟩ => ⟨S12x2048x2048, .f32⟩
  | .hbm, ⟨3, _⟩ => ⟨S12x2048x2048, .f32⟩
  | .hbm, ⟨4, _⟩ => ⟨S12x2048x2048, .f32⟩
  | .hbm, ⟨5, _⟩ => ⟨S12x8x256x2048, .f32⟩
  | .hbm, ⟨6, _⟩ => ⟨S12x2048x2048, .f32⟩
  | .hbm, ⟨7, _⟩ => ⟨S12x8x256x2048, .f32⟩
  | .hbm, ⟨8, _⟩ => ⟨S12x2048x2048, .f32⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Finish.Spec.lean ====
/-
  The mathematics of the finishing step, written once for both programs over the extended reals: what one entry of the
  rounded factor, of the new momentum, of its block scale and of its code is, as a function of the four argument arrays.
  The kernel's tiles and the reference's whole arrays are both read as these functions in the other modules.
-/
module

public import Idealize.ShloMosaic.Lib.Pointwise

@[expose] public section

set_option maxRecDepth 16384

noncomputable section

open Idealize.ShloMosaic

namespace Cert.FinishSpec

/-- The largest magnitude among 256 neighbouring entries, folded from minus infinity. -/
def amax (f : Fin 256 → EReal) : EReal :=
  Finset.univ.fold max (FloatOps.ofBits (F := Ideal) .f32 0xFF800000#32) (fun l => FloatOps.absf (F := Ideal) (φ := .f32) (f l))

/-- The scale of a block whose largest magnitude is `a`: `a / 127`, and `1` for a block of zeros. -/
def scale (a : EReal) : EReal :=
  Scalar.select (FloatOps.cmpf (F := Ideal) (φ := .f32) .oeq a (Scalar.ofBits (F := Ideal) .f32 0x00000000#32))
    (Scalar.ofBits (F := Ideal) .f32 0x3F800000#32)
    (FloatOps.divf (F := Ideal) (φ := .f32) a (Scalar.ofBits (F := Ideal) .f32 0x42FE0000#32))

/-- `x / s` rounded to the nearest integer, half to even, and clipped to `[-127, 127]`. -/
def clip (x s : EReal) : EReal :=
  FloatOps.minimumf (F := Ideal) (φ := .f32) (Scalar.ofBits (F := Ideal) .f32 0x42FE0000#32)
    (FloatOps.maximumf (F := Ideal) (φ := .f32) (Scalar.ofBits (F := Ideal) .f32 0xC2FE0000#32)
      (FloatOps.roundeven (F := Ideal) (φ := .f32) (FloatOps.divf (F := Ideal) (φ := .f32) x s)))

/-- The clipped quotient as an eight-bit integer. -/
def code (x s : EReal) : BitVec 8 := FloatOps.fptosi (F := Ideal) (φ := .f32) 8 (clip x s)

/-- A float maximum along the last axis of a matrix, at a row: the fold over that row. -/
theorem max_row2 {n0 n1 : ℕ} {t : Shape} (v : FVec Ideal (⟨2, ![n0, n1]⟩ : Shape) .f32) (acc : BitVec 32)
    (h : (⟨2, ![n0, n1]⟩ : Shape).Reduces [1] t) (hφ : FKind.Formats .f32) (hacc : acc = FKind.maximumf.neutral .f32 hφ) (j : t.Idx) :
    multiReduction .maximumf [1] t v acc h hφ hacc j
      = (Finset.univ : Finset (Fin n1)).fold max (FloatOps.ofBits (F := Ideal) .f32 acc)
          (fun k => v (ix2 ⟨(j ⟨0, h.lt_r2_a1_0⟩).val, Shape.coordLt (j ⟨0, h.lt_r2_a1_0⟩) h.size_r2_a1_0⟩ k)) := by
  rw [multiReduction_maximumf_eq_fold]
  exact h.fold_fiber_r2_a1 j _ _ _

/-- The same along the last axis of an array of rank four. -/
theorem max_row4 {n0 n1 n2 n3 : ℕ} {t : Shape} (v : FVec Ideal (⟨4, ![n0, n1, n2, n3]⟩ : Shape) .f32) (acc : BitVec 32)
    (h : (⟨4, ![n0, n1, n2, n3]⟩ : Shape).Reduces [3] t) (hφ : FKind.Formats .f32) (hacc : acc = FKind.maximumf.neutral .f32 hφ) (j : t.Idx) :
    multiReduction .maximumf [3] t v acc h hφ hacc j
      = (Finset.univ : Finset (Fin n3)).fold max (FloatOps.ofBits (F := Ideal) .f32 acc)
          (fun k => v (ix4 ⟨(j ⟨0, h.lt_r4_a3_0⟩).val, Shape.coordLt (j ⟨0, h.lt_r4_a3_0⟩) h.size_r4_a3_0⟩
            ⟨(j ⟨1, h.lt_r4_a3_1⟩).val, Shape.coordLt (j ⟨1, h.lt_r4_a3_1⟩) h.size_r4_a3_1⟩
            ⟨(j ⟨2, h.lt_r4_a3_2⟩).val, Shape.coordLt (j ⟨2, h.lt_r4_a3_2⟩) h.size_r4_a3_2⟩ k)) := by
  rw [multiReduction_maximumf_eq_fold]
  exact h.fold_fiber_r4_a3 j _ _ _

abbrev SY : Shape := ⟨4, ![12, 3, 2048, 2048]⟩
abbrev SQ : Shape := ⟨3, ![12, 2048, 2048]⟩
abbrev SM : Shape := ⟨3, ![12, 2048, 768]⟩
abbrev SS : Shape := ⟨3, ![12, 2048, 3]⟩

/-- One entry of the dequantised momentum: its code times the scale of the block of 256 columns it lies in. -/
def mdeq (a2 : IVec SM 8) (a3 : FVec Ideal SS .f32) (b : Fin 12) (j : Fin 2048) (d : Fin 768) : EReal :=
  FloatOps.sitofp (F := Ideal) FTy.bf16 (a2 (ix3 b j d)) * a3 (ix3 b j ⟨d.val / 256, by omega⟩)

/-- One entry of the new momentum: row `i` of `q_new^T q_l` against column `d` of the dequantised momentum. -/
def mnew (a0 : FVec Ideal SY .bf16) (a1 : FVec Ideal SQ .bf16) (a2 : IVec SM 8) (a3 : FVec Ideal SS .f32)
    (b : Fin 12) (i : Fin 2048) (d : Fin 768) : EReal :=
  ∑ j : Fin 2048, (∑ k : Fin 2048, a0 (ix4 b 0 i k) * a1 (ix3 b k j)) * mdeq a2 a3 b j d

/-- The scale of block `e` of row `i` of the new momentum. -/
def snew (a0 : FVec Ideal SY .bf16) (a1 : FVec Ideal SQ .bf16) (a2 : IVec SM 8) (a3 : FVec Ideal SS .f32)
    (b : Fin 12) (i : Fin 2048) (e : Fin 3) : EReal :=
  scale (amax fun l => mnew a0 a1 a2 a3 b i ⟨e.val * 256 + l.val, by omega⟩)

/-- Result one: the new factor, the transpose of the first of the three arrays of `y`. -/
def R4 (a0 : FVec Ideal SY .bf16) : FVec Ideal SQ .bf16 := fun i => a0 (ix4 (i 0) 0 (i 2) (i 1))

/-- Result two: the codes of the new momentum. -/
def R5 (a0 : FVec Ideal SY .bf16) (a1 : FVec Ideal SQ .bf16) (a2 : IVec SM 8) (a3 : FVec Ideal SS .f32) : IVec SM 8 :=
  fun i => code (mnew a0 a1 a2 a3 (i 0) (i 1) (i 2)) (snew a0 a1 a2 a3 (i 0) (i 1) ⟨(i 2).val / 256, by
    have h : (i 2).val < 768 := (i 2).isLt
    omega⟩)

/-- Result three: the scales of the new momentum. -/
def R6 (a0 : FVec Ideal SY .bf16) (a1 : FVec Ideal SQ .bf16) (a2 : IVec SM 8) (a3 : FVec Ideal SS .f32) : FVec Ideal SS .f32 :=
  fun i => snew a0 a1 a2 a3 (i 0) (i 1) (i 2)

end Cert.FinishSpec

end
-- ==== Proof.Finish.Reference.lean ====
/-
  The reference of the finishing step, read at an index: each of its three result arrays is the function of the argument
  arrays that `FinishSpec` states.
-/
module

public import proofs.«01_k».proof.Proof.Finish.Spec
public import proofs.«01_k».proof.Proof.Gen.FinishReferenceIdeal.Value

@[expose] public section

set_option maxRecDepth 16384

noncomputable section

open Idealize.ShloMosaic Idealize.ShloMosaic.TcCoe Idealize.SL.Sem

namespace Cert.FinishReferenceIdeal.Math

open Cert.FinishReferenceIdeal Cert.FinishReferenceIdeal.Gen Cert.FinishReferenceIdeal.Value Cert.FinishSpec

variable (a0 : Vec Ideal S12x3x2048x2048 .bf16) (a1 : Vec Ideal S12x2048x2048 .bf16) (a2 : Vec Ideal S12x2048x768 .i8)
  (a3 : Vec Ideal S12x2048x3 .f32)

/-- A largest magnitude along the last axis, at a block. -/
theorem max_apply (M : FVec Ideal S12x2048x3x256 .f32) (b : Fin 12) (i : Fin 2048) (e : Fin 3) :
    multiReduction .maximumf [3] S12x2048x3 (absf M) 0xFF800000#32 reduces_S12x2048x3x256_S12x2048x3 (.inl rfl) rfl (ix3 b i e)
      = amax fun l => M (ix4 b i e l) :=
  max_row4 (absf M) 0xFF800000#32 reduces_S12x2048x3x256_S12x2048x3 (.inl rfl) rfl (ix3 b i e)

/-- The scales of an array of largest magnitudes. -/
def scales (A : FVec Ideal S12x2048x3 .f32) : FVec Ideal S12x2048x3 .f32 :=
  select (cmpf .oeq A (broadcast S12x2048x3 (Scalar.ofBits .f32 0x00000000#32))) (broadcast S12x2048x3 (Scalar.ofBits .f32 0x3F800000#32))
    (divf A (broadcast S12x2048x3 (Scalar.ofBits .f32 0x42FE0000#32)))

theorem scales_apply (A : FVec Ideal S12x2048x3 .f32) (b : Fin 12) (i : Fin 2048) (e : Fin 3) :
    scales A (ix3 b i e) = scale (A (ix3 b i e)) := rfl

/-- The codes of an array under the scales of its blocks, the blocks joined again. -/
def codes (M : FVec Ideal S12x2048x3x256 .f32) (S : FVec Ideal S12x2048x3 .f32) : IVec S12x2048x768 8 :=
  shapeCast S12x2048x768 (fptosi 8 (minimumf (broadcast S12x2048x3x256 (Scalar.ofBits .f32 0x42FE0000#32))
    (maximumf (broadcast S12x2048x3x256 (Scalar.ofBits .f32 0xC2FE0000#32)) (roundeven (divf M
      (broadcastTo S12x2048x3x256 (shapeCast S12x2048x3x1 S shapeCasts_S12x2048x3_S12x2048x3x1) broadcasts_S12x2048x3x1_S12x2048x3x256))))))
    shapeCasts_S12x2048x3x256_S12x2048x768

theorem codes_apply (M : FVec Ideal S12x2048x3x256 .f32) (S : FVec Ideal S12x2048x3 .f32) (b : Fin 12) (i : Fin 2048) (d : Fin 768) :
    codes M S (ix3 b i d) = code (M (ix4 b i ⟨d.val / 256, by omega⟩ ⟨d.val % 256, by omega⟩)) (S (ix3 b i ⟨d.val / 256, by omega⟩)) := by
  pointwise [codes, code, clip]

variable (a0 : Vec Ideal S12x3x2048x2048 .bf16) (a1 : Vec Ideal S12x2048x2048 .bf16) (a2 : Vec Ideal S12x2048x768 .i8)
  (a3 : Vec Ideal S12x2048x3 .f32)

/-- The first result is the transpose of the first of the three arrays. -/
theorem G4_eq : G4 a0 a1 a2 a3 = R4 a0 := by
  funext j
  idx_vars j
  unfold G4 R4
  pointwise [k0_pay2]

/-- The new momentum, its columns split into three blocks of 256. -/
theorem pay3_apply (b : Fin 12) (i : Fin 2048) (e : Fin 3) (l : Fin 256) :
    k0_pay3 (View.ld a0 r0_0) a1 a2 a3 (ix4 b i e l) = mnew a0 a1 a2 a3 b i ⟨e.val * 256 + l.val, by omega⟩ := by
  have h : (⟨(e.val * 256 + l.val) / 256, by omega⟩ : Fin 3) = e := Fin.ext (by dsimp only; omega)
  pointwise [k0_pay3, k0_pay2, mnew, mdeq]
  rw [h]

/-- The scales of the reference. -/
theorem pay4_apply (b : Fin 12) (i : Fin 2048) (e : Fin 3) :
    k0_pay4 (View.ld a0 r0_0) a1 a2 a3 (ix3 b i e) = snew a0 a1 a2 a3 b i e := by
  have h : k0_pay4 (View.ld a0 r0_0) a1 a2 a3 = scales (multiReduction .maximumf [3] S12x2048x3 (absf (k0_pay3 (View.ld a0 r0_0) a1 a2 a3))
      0xFF800000#32 reduces_S12x2048x3x256_S12x2048x3 (.inl rfl) rfl) := rfl
  rw [h, scales_apply, max_apply]
  unfold snew
  congr 2
  funext l
  exact pay3_apply a0 a1 a2 a3 b i e l

/-- The third result is the scales. -/
theorem G6_eq : G6 a0 a1 a2 a3 = R6 a0 a1 a2 a3 := by
  funext j
  rw [eq_ix3 j]
  exact pay4_apply a0 a1 a2 a3 _ _ _

/-- The codes at an index. -/
theorem G5_apply (b : Fin 12) (i : Fin 2048) (d : Fin 768) : G5 a0 a1 a2 a3 (ix3 b i d) = R5 a0 a1 a2 a3 (ix3 b i d) := by
  have h : G5 a0 a1 a2 a3 = codes (k0_pay3 (View.ld a0 r0_0) a1 a2 a3) (k0_pay4 (View.ld a0 r0_0) a1 a2 a3) := rfl
  have e : (⟨d.val / 256 * 256 + d.val % 256, by omega⟩ : Fin 768) = d := Fin.ext (by dsimp only; omega)
  have h3 := pay3_apply a0 a1 a2 a3 b i ⟨d.val / 256, by omega⟩ ⟨d.val % 256, by omega⟩
  have h4 := pay4_apply a0 a1 a2 a3 b i ⟨d.val / 256, by omega⟩
  exact (congrFun h _).trans ((codes_apply _ _ b i d).trans (congrArg₂ code (h3.trans (congrArg (mnew a0 a1 a2 a3 b i) e)) h4))

/-- The second result is the codes. -/
theorem G5_eq : G5 a0 a1 a2 a3 = R5 a0 a1 a2 a3 := by
  funext j
  rw [eq_ix3 j]
  exact G5_apply a0 a1 a2 a3 _ _ _

end Cert.FinishReferenceIdeal.Math

end
-- ==== Proof.Finish.Kernel.lean ====
/-
  The kernel of the finishing step, one grid point at a time: what its loads, its two products and its quantiser leave in
  the scratch and in the three output blocks, at an index, for any input blocks.
-/
module

public import proofs.«01_k».proof.Proof.Finish.Spec
public import proofs.«01_k».proof.Proof.Gen.FinishIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FinishIdeal.Math

open Cert.FinishIdeal Cert.FinishIdeal.Gen Cert.FinishIdeal.Value Cert.FinishSpec

/-- An index of a matrix from its two coordinates. -/
theorem idx2_ext {n0 n1 : ℕ} (y : (⟨2, ![n0, n1]⟩ : Shape).Idx) {a : Fin n0} {b : Fin n1} (h0 : (y 0).val = a.val) (h1 : (y 1).val = b.val) :
    y = ix2 a b := by
  rw [eq_ix2 y]
  congr 1 <;> exact Fin.ext (by assumption)

/-- An index of an array of rank three from its coordinates. -/
theorem idx3_ext {n0 n1 n2 : ℕ} (y : (⟨3, ![n0, n1, n2]⟩ : Shape).Idx) {a : Fin n0} {b : Fin n1} {d : Fin n2} (h0 : (y 0).val = a.val)
    (h1 : (y 1).val = b.val) (h2 : (y 2).val = d.val) : y = ix3 a b d := by
  rw [eq_ix3 y]
  congr 1 <;> exact Fin.ext (by assumption)

/-! ## The dequantised momentum of one batch, in the scratch -/

/-- The dequantised momentum of the codes `x2` and scales `x3` of one batch. -/
def MD (x2 : Vec Ideal S1x2048x768 .i8) (x3 : Vec Ideal S1x2048x3 .f32) : Vec Ideal S2048x768 .bf16 := fun y =>
  FloatOps.sitofp (F := Ideal) FTy.bf16 (x2 (ix3 0 (y 0) (y 1))) * x3 (ix3 0 (y 0) ⟨(y 1).val / 256, by
    have h : (y 1).val < 768 := (y 1).isLt
    omega⟩)

theorem pay4_apply (x2 : Vec Ideal S1x2048x768 .i8) (x3 : Vec Ideal S1x2048x3 .f32) (j : Fin 2048) (l : Fin 256) :
    k0_pay4 x3 (View.ld x2 (Rect.unit ![0, 0, 0] ![1, 2048, 256] inb_S1x2048x768_S1x2048x256_0_0_0)) (ix2 j l)
      = MD x2 x3 (ix2 j ⟨0 + l.val, by omega⟩) := by
  have e : (⟨(0 + l.val) / 256, by omega⟩ : Fin 3) = 0 := Fin.ext (by dsimp only; omega)
  show _ = FloatOps.sitofp (F := Ideal) FTy.bf16 (x2 (ix3 0 j ⟨0 + l.val, by omega⟩)) * x3 (ix3 0 j ⟨(0 + l.val) / 256, by omega⟩)
  rw [e]
  pointwise [k0_pay4, k0_pay3]

theorem pay5_apply (x2 : Vec Ideal S1x2048x768 .i8) (x3 : Vec Ideal S1x2048x3 .f32) (j : Fin 2048) (l : Fin 256) :
    k0_pay5 x3 (View.ld x2 (Rect.unit ![0, 0, 256] ![1, 2048, 256] inb_S1x2048x768_S1x2048x256_0_0_256)) (ix2 j l)
      = MD x2 x3 (ix2 j ⟨256 + l.val, by omega⟩) := by
  have e : (⟨(256 + l.val) / 256, by omega⟩ : Fin 3) = 1 := Fin.ext (by dsimp only; omega)
  show _ = FloatOps.sitofp (F := Ideal) FTy.bf16 (x2 (ix3 0 j ⟨256 + l.val, by omega⟩)) * x3 (ix3 0 j ⟨(256 + l.val) / 256, by omega⟩)
  rw [e]
  pointwise [k0_pay5, k0_pay3]

theorem pay6_apply (x2 : Vec Ideal S1x2048x768 .i8) (x3 : Vec Ideal S1x2048x3 .f32) (j : Fin 2048) (l : Fin 256) :
    k0_pay6 x3 (View.ld x2 (Rect.unit ![0, 0, 512] ![1, 2048, 256] inb_S1x2048x768_S1x2048x256_0_0_512)) (ix2 j l)
      = MD x2 x3 (ix2 j ⟨512 + l.val, by omega⟩) := by
  have e : (⟨(512 + l.val) / 256, by omega⟩ : Fin 3) = 2 := Fin.ext (by dsimp only; omega)
  show _ = FloatOps.sitofp (F := Ideal) FTy.bf16 (x2 (ix3 0 j ⟨512 + l.val, by omega⟩)) * x3 (ix3 0 j ⟨(512 + l.val) / 256, by omega⟩)
  rw [e]
  pointwise [k0_pay6, k0_pay3]

/-- The three stores, one per block of 256 columns, leave the dequantised momentum. -/
theorem canonMD (x2 : Vec Ideal S1x2048x768 .i8) (x3 : Vec Ideal S1x2048x3 .f32) (y : S2048x768.Idx) :
    View.canon [⟨Rect.unit ![0, 512] ![2048, 256] inb_S2048x768_S2048x256_0_512, k0_pay6 x3 (View.ld x2
        (Rect.unit ![0, 0, 512] ![1, 2048, 256] inb_S1x2048x768_S1x2048x256_0_0_512))⟩,
      ⟨Rect.unit ![0, 256] ![2048, 256] inb_S2048x768_S2048x256_0_256, k0_pay5 x3 (View.ld x2
        (Rect.unit ![0, 0, 256] ![1, 2048, 256] inb_S1x2048x768_S1x2048x256_0_0_256))⟩,
      (⟨Rect.unit ![0, 0] ![2048, 256] inb_S2048x768_S2048x256_0_0, k0_pay4 x3 (View.ld x2
        (Rect.unit ![0, 0, 0] ![1, 2048, 256] inb_S1x2048x768_S1x2048x256_0_0_0))⟩ : View.Piece (Elt Ideal) S2048x768 .bf16)] y
      = MD x2 x3 y := by
  canon_tiles x h
  · obtain ⟨j, l, rfl⟩ : ∃ (j : Fin 2048) (l : Fin 256), x = ix2 j l := ⟨x 0, x 1, eq_ix2 x⟩
    exact (pay6_apply x2 x3 j l).trans (congrArg (MD x2 x3) (idx2_ext y h0 h1).symm)
  · obtain ⟨j, l, rfl⟩ : ∃ (j : Fin 2048) (l : Fin 256), x = ix2 j l := ⟨x 0, x 1, eq_ix2 x⟩
    exact (pay5_apply x2 x3 j l).trans (congrArg (MD x2 x3) (idx2_ext y h0 h1).symm)
  · obtain ⟨j, l, rfl⟩ : ∃ (j : Fin 2048) (l : Fin 256), x = ix2 j l := ⟨x 0, x 1, eq_ix2 x⟩
    exact (pay4_apply x2 x3 j l).trans (congrArg (MD x2 x3) (idx2_ext y h0 (h1.trans (by show l.val = 0 + l.val; omega))).symm)

/-! ## The quantiser on one block of 256 columns -/

/-- The scales of the rows of a block. -/
def rowScale (x : FVec Ideal S256x256 .f32) : FVec Ideal S256x1 .f32 :=
  have A : FVec Ideal S256x1 .f32 := shapeCast S256x1 (multiReduction .maximumf [1] S256 (absf x) 0xFF800000#32 reduces_S256x256_S256 (.inl rfl) rfl) shapeCasts_S256_S256x1
  select (cmpf .oeq A (broadcast S256x1 (Scalar.ofBits .f32 0x00000000#32))) (broadcast S256x1 (Scalar.ofBits .f32 0x3F800000#32))
    (divf A (broadcast S256x1 (Scalar.ofBits .f32 0x42FE0000#32)))

/-- A block divided by its rows' scales `s`, rounded and clipped. -/
def rowClip (x : FVec Ideal S256x256 .f32) (s : FVec Ideal S256x1 .f32) : FVec Ideal S256x256 .f32 :=
  minimumf (broadcast S256x256 (Scalar.ofBits .f32 0x42FE0000#32)) (maximumf (broadcast S256x256 (Scalar.ofBits .f32 0xC2FE0000#32))
    (roundeven (divf x (broadcastTo S256x256 s broadcasts_S256x1_S256x256))))

theorem max_apply (x : FVec Ideal S256x256 .f32) (i : Fin 256) :
    multiReduction .maximumf [1] S256 (absf x) 0xFF800000#32 reduces_S256x256_S256 (.inl rfl) rfl (ix1 i) = amax fun l => x (ix2 i l) :=
  max_row2 (absf x) 0xFF800000#32 reduces_S256x256_S256 (.inl rfl) rfl (ix1 i)

theorem cast_apply (v : FVec Ideal S256 .f32) (i : Fin 256) : shapeCast S256x1 v shapeCasts_S256_S256x1 (ix2 i 0) = v (ix1 i) := by
  pointwise

theorem rowScale_apply (x : FVec Ideal S256x256 .f32) (i : Fin 256) : rowScale x (ix2 i 0) = scale (amax fun l => x (ix2 i l)) :=
  congrArg scale ((cast_apply _ i).trans (max_apply x i))

theorem rowClip_apply (x : FVec Ideal S256x256 .f32) (s : FVec Ideal S256x1 .f32) (i j : Fin 256) :
    rowClip x s (ix2 i j) = clip (x (ix2 i j)) (s (ix2 i 0)) := by
  pointwise [rowClip, clip]

/-! ## The three results of one point, over its 256 rows `M` of the new momentum -/

/-- The scales of the rows. -/
def S6 (M : FVec Ideal S256x768 .f32) (i : Fin 256) (e : Fin 3) : EReal :=
  scale (amax fun l => M (ix2 i ⟨e.val * 256 + l.val, by omega⟩))

/-- The codes of the rows. -/
def S5 (M : FVec Ideal S256x768 .f32) (i : Fin 256) (d : Fin 768) : BitVec 8 :=
  code (M (ix2 i d)) (S6 M i ⟨d.val / 256, by omega⟩)

theorem slice0_apply (M : FVec Ideal S256x768 .f32) (i l : Fin 256) :
    extractStridedSlice S256x256 ![0, 0] M slices_S256x768_o0_0_S256x256 (ix2 i l) = M (ix2 i ⟨0 * 256 + l.val, by omega⟩) := by
  have e : (⟨0 * 256 + l.val, by omega⟩ : Fin 768) = ⟨l.val, by omega⟩ := Fin.ext (by dsimp only; omega)
  rw [e]
  pointwise

theorem slice1_apply (M : FVec Ideal S256x768 .f32) (i l : Fin 256) :
    k0_pay14 M (ix2 i l) = M (ix2 i ⟨1 * 256 + l.val, by omega⟩) := by
  pointwise [k0_pay14]

theorem slice2_apply (M : FVec Ideal S256x768 .f32) (i l : Fin 256) :
    k0_pay17 M (ix2 i l) = M (ix2 i ⟨2 * 256 + l.val, by omega⟩) := by
  pointwise [k0_pay17]

theorem unit_apply (v : IVec S256x256 8) (a : Fin 1) (i l : Fin 256) : shapeCast S1x256x256 v shapeCasts_S256x256_S1x256x256 (ix3 a i l) = v (ix2 i l) := by
  pointwise

/-- A block of codes, given where the block's columns lie in the rows. -/
theorem block_code (M : FVec Ideal S256x768 .f32) (x : FVec Ideal S256x256 .f32) (e : Fin 3)
    (hx : ∀ i l : Fin 256, x (ix2 i l) = M (ix2 i ⟨e.val * 256 + l.val, by omega⟩)) (a : Fin 1) (i l : Fin 256) :
    shapeCast S1x256x256 (fptosi 8 (rowClip x (rowScale x))) shapeCasts_S256x256_S1x256x256 (ix3 a i l)
      = S5 M i ⟨e.val * 256 + l.val, by omega⟩ := by
  have he : (⟨(e.val * 256 + l.val) / 256, by omega⟩ : Fin 3) = e := Fin.ext (by dsimp only; omega)
  rw [unit_apply]
  show FloatOps.fptosi (F := Ideal) (φ := .f32) 8 (rowClip x (rowScale x) (ix2 i l)) = code _ (S6 M i ⟨(e.val * 256 + l.val) / 256, _⟩)
  rw [he, rowClip_apply, rowScale_apply, hx, funext (hx i)]
  rfl

theorem block_scale (M : FVec Ideal S256x768 .f32) (x : FVec Ideal S256x256 .f32) (e : Fin 3)
    (hx : ∀ i l : Fin 256, x (ix2 i l) = M (ix2 i ⟨e.val * 256 + l.val, by omega⟩)) (i : Fin 256) :
    rowScale x (ix2 i 0) = S6 M i e := by
  rw [rowScale_apply, funext (hx i)]
  rfl

/-- The three stores of codes leave the codes of the rows. -/
theorem canon5 (x0 : Vec Ideal S1x1x256x2048 .bf16) (x1 : Vec Ideal S1x2048x2048 .bf16) (md : Vec Ideal S2048x768 .bf16) (y : S1x256x768.Idx) :
    View.canon [⟨Rect.unit ![0, 0, 512] ![1, 256, 256] inb_S1x256x768_S1x256x256_0_0_512, k0_pay1 (k0_pay19 (k0_pay9 x0 x1 md))⟩,
      ⟨Rect.unit ![0, 0, 256] ![1, 256, 256] inb_S1x256x768_S1x256x256_0_0_256, k0_pay16 (k0_pay9 x0 x1 md)⟩,
      (⟨Rect.unit ![0, 0, 0] ![1, 256, 256] inb_S1x256x768_S1x256x256_0_0_0, k0_pay13 (k0_pay12 x0 x1 md)⟩ : View.Piece (Elt Ideal) S1x256x768 .i8)] y
      = S5 (k0_pay9 x0 x1 md) (y 1) (y 2) := by
  have c0 : k0_pay13 (k0_pay12 x0 x1 md) = shapeCast S1x256x256 (fptosi 8 (rowClip (k0_pay10 x0 x1 md) (rowScale (k0_pay10 x0 x1 md)))) shapeCasts_S256x256_S1x256x256 := rfl
  have c1 : k0_pay16 (k0_pay9 x0 x1 md) = shapeCast S1x256x256 (fptosi 8 (rowClip (k0_pay14 (k0_pay9 x0 x1 md)) (rowScale (k0_pay14 (k0_pay9 x0 x1 md))))) shapeCasts_S256x256_S1x256x256 := rfl
  have c2 : k0_pay1 (k0_pay19 (k0_pay9 x0 x1 md)) = shapeCast S1x256x256 (fptosi 8 (rowClip (k0_pay17 (k0_pay9 x0 x1 md)) (rowScale (k0_pay17 (k0_pay9 x0 x1 md))))) shapeCasts_S256x256_S1x256x256 := rfl
  rw [c0, c1, c2]
  generalize hM : k0_pay9 x0 x1 md = M
  have h10 : k0_pay10 x0 x1 md = extractStridedSlice S256x256 ![0, 0] M slices_S256x768_o0_0_S256x256 := by rw [← hM]; rfl
  rw [h10]
  canon_tiles x h
  · obtain ⟨a, i, l, rfl⟩ : ∃ (a : Fin 1) (i : Fin 256) (l : Fin 256), x = ix3 a i l := ⟨x 0, x 1, x 2, eq_ix3 x⟩
    have hi : i = y 1 := Fin.ext h1.symm
    have hd : (⟨(2 : Fin 3).val * 256 + l.val, by omega⟩ : Fin 768) = y 2 := Fin.ext h2.symm
    exact (block_code M _ 2 (slice2_apply M) a i l).trans (congrArg₂ (S5 M) hi hd)
  · obtain ⟨a, i, l, rfl⟩ : ∃ (a : Fin 1) (i : Fin 256) (l : Fin 256), x = ix3 a i l := ⟨x 0, x 1, x 2, eq_ix3 x⟩
    have hi : i = y 1 := Fin.ext h1.symm
    have hd : (⟨(1 : Fin 3).val * 256 + l.val, by omega⟩ : Fin 768) = y 2 := Fin.ext h2.symm
    exact (block_code M _ 1 (slice1_apply M) a i l).trans (congrArg₂ (S5 M) hi hd)
  · obtain ⟨a, i, l, rfl⟩ : ∃ (a : Fin 1) (i : Fin 256) (l : Fin 256), x = ix3 a i l := ⟨x 0, x 1, x 2, eq_ix3 x⟩
    have hi : i = y 1 := Fin.ext h1.symm
    have hd : (⟨(0 : Fin 3).val * 256 + l.val, by omega⟩ : Fin 768) = y 2 := Fin.ext (h2.trans (by show l.val = 0 * 256 + l.val; omega)).symm
    exact (block_code M _ 0 (slice0_apply M) a i l).trans (congrArg₂ (S5 M) hi hd)

/-! The three columns of scales side by side, at a column. -/

theorem column0 (u v w : FVec Ideal S256x1 .f32) (a : Fin 1) (i : Fin 256) : k0_pay2 u v w (ix3 a i 0) = u (ix2 i 0) := by
  pointwise [k0_pay2]

theorem column1 (u v w : FVec Ideal S256x1 .f32) (a : Fin 1) (i : Fin 256) : k0_pay2 u v w (ix3 a i 1) = v (ix2 i 0) := by
  pointwise [k0_pay2]

theorem column2 (u v w : FVec Ideal S256x1 .f32) (a : Fin 1) (i : Fin 256) : k0_pay2 u v w (ix3 a i 2) = w (ix2 i 0) := by
  pointwise [k0_pay2]

/-- The store of scales leaves the scales of the rows. -/
theorem out6 (x0 : Vec Ideal S1x1x256x2048 .bf16) (x1 : Vec Ideal S1x2048x2048 .bf16) (md : Vec Ideal S2048x768 .bf16) (a : Fin 1) (i : Fin 256) (e : Fin 3) :
    k0_pay2 (k0_pay11 x0 x1 md) (k0_pay15 (k0_pay9 x0 x1 md)) (k0_pay18 (k0_pay9 x0 x1 md)) (ix3 a i e) = S6 (k0_pay9 x0 x1 md) i e := by
  have c0 : k0_pay11 x0 x1 md = rowScale (extractStridedSlice S256x256 ![0, 0] (k0_pay9 x0 x1 md) slices_S256x768_o0_0_S256x256) := rfl
  have c1 : k0_pay15 (k0_pay9 x0 x1 md) = rowScale (k0_pay14 (k0_pay9 x0 x1 md)) := rfl
  have c2 : k0_pay18 (k0_pay9 x0 x1 md) = rowScale (k0_pay17 (k0_pay9 x0 x1 md)) := rfl
  rw [c0, c1, c2]
  generalize k0_pay9 x0 x1 md = M
  obtain rfl | rfl | rfl : e = 0 ∨ e = 1 ∨ e = 2 := by
    clear c0 c1 c2
    revert e
    decide
  · exact (column0 _ _ _ a i).trans (block_scale M _ 0 (slice0_apply M) i)
  · exact (column1 _ _ _ a i).trans (block_scale M _ 1 (slice1_apply M) i)
  · exact (column2 _ _ _ a i).trans (block_scale M _ 2 (slice2_apply M) i)

/-- The rows of the new momentum: the rows of `y` against the old factor, and that against the dequantised momentum. -/
theorem pay9_apply (x0 : Vec Ideal S1x1x256x2048 .bf16) (x1 : Vec Ideal S1x2048x2048 .bf16) (md : Vec Ideal S2048x768 .bf16) (i : Fin 256) (d : Fin 768) :
    k0_pay9 x0 x1 md (ix2 i d) = ∑ j : Fin 2048, (∑ k : Fin 2048, x0 (ix4 0 0 i k) * x1 (ix3 0 k j)) * md (ix2 j d) := by
  pointwise [k0_pay9, k0_pay7]

/-- The block of the new factor: the rows of `y` as columns. -/
theorem pay8_apply (x0 : Vec Ideal S1x1x256x2048 .bf16) (a : Fin 1) (k : Fin 2048) (i : Fin 256) : k0_pay8 x0 (ix3 a k i) = x0 (ix4 0 0 i k) := by
  pointwise [k0_pay8, k0_pay7]

end Cert.FinishIdeal.Math

end
-- ==== Proof.Finish.Run.lean ====
/-
  The finishing kernel's run: the blocks its windows place, the momentum held in the scratch through the eight points of
  one batch, and the three arrays the run leaves.
-/
module

public import proofs.«01_k».proof.Proof.Finish.Kernel
public import Idealize.ShloMosaic.Lib.Pipeline.ValueKit.Held

@[expose] public section

set_option maxRecDepth 16384

noncomputable section

open Idealize.ShloMosaic Idealize.ShloMosaic.TcCoe Idealize.SL.Sem

namespace Cert.FinishIdeal.Math

open Cert.FinishIdeal Cert.FinishIdeal.Gen Cert.FinishIdeal.Value Cert.FinishSpec

variable (m : (ℓ : Loc nD τ sig) → Buf (Elt Ideal) ℓ)

/-- The four arguments, by their contents. -/
abbrev A0 (c : Dev nD) : FVec Ideal SY .bf16 := m ((c : Thread nD τ).loc main_arg0)
abbrev A1 (c : Dev nD) : FVec Ideal SQ .bf16 := m ((c : Thread nD τ).loc main_arg1)
abbrev A2 (c : Dev nD) : IVec SM 8 := m ((c : Thread nD τ).loc main_arg2)
abbrev A3 (c : Dev nD) : FVec Ideal SS .f32 := m ((c : Thread nD τ).loc main_arg3)

/-- Where the index maps of the inputs point: batch `t / 8`, rows `t % 8`. -/
theorem idxIn : ∀ t : Fin cfg0.N,
    (win0_0.index t (0 : Fin 4) = t.val / 8 ∧ win0_0.index t (1 : Fin 4) = 0 ∧ win0_0.index t (2 : Fin 4) = t.val % 8 ∧ win0_0.index t (3 : Fin 4) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

/-- Where the index maps of the outputs point. -/
theorem idxOut : ∀ t : Fin cfg0.N,
    (win0_4.index t (0 : Fin 3) = t.val / 8 ∧ win0_4.index t (1 : Fin 3) = 0 ∧ win0_4.index t (2 : Fin 3) = t.val % 8)
    ∧ (win0_5.index t (0 : Fin 3) = t.val / 8 ∧ win0_5.index t (1 : Fin 3) = t.val % 8 ∧ win0_5.index t (2 : Fin 3) = 0)
    ∧ (win0_6.index t (0 : Fin 3) = t.val / 8 ∧ win0_6.index t (1 : Fin 3) = t.val % 8 ∧ win0_6.index t (2 : Fin 3) = 0) :=
  (by decide +kernel : ∀ t : Fin grid0.N, _)

/-- The batch of a point, and the row of the array that row `i` of its block is. -/
abbrev bat (t : Fin cfg0.N) : Fin 12 := ⟨t.val / 8, by have h : t.val < 96 := t.isLt; omega⟩
abbrev row (t : Fin cfg0.N) (i : Fin 256) : Fin 2048 := ⟨t.val % 8 * 256 + i.val, by omega⟩

theorem iblk0 (c : Dev nD) (t : Fin cfg0.N) (i : Fin 256) (k : Fin 2048) :
    iblk m c 0 t (ix4 0 0 i k) = A0 m c (ix4 (bat t) 0 (row t i) k) := by
  blk_ext [iblk, V, idxIn t]

theorem iblk1 (c : Dev nD) (t : Fin cfg0.N) (k j : Fin 2048) :
    iblk m c 1 t (ix3 0 k j) = A1 m c (ix3 (bat t) k j) := by
  blk_ext [iblk, V, idxIn t]

theorem iblk2 (c : Dev nD) (t : Fin cfg0.N) (j : Fin 2048) (d : Fin 768) :
    iblk m c 2 t (ix3 0 j d) = A2 m c (ix3 (bat t) j d) := by
  blk_ext [iblk, V, idxIn t]

theorem iblk3 (c : Dev nD) (t : Fin cfg0.N) (j : Fin 2048) (e : Fin 3) :
    iblk m c 3 t (ix3 0 j e) = A3 m c (ix3 (bat t) j e) := by
  blk_ext [iblk, V, idxIn t]

/-- The dequantised momentum of the point's batch. -/
theorem MD_eq (c : Dev nD) (t : Fin cfg0.N) (j : Fin 2048) (d : Fin 768) :
    MD (iblk m c 2 t) (iblk m c 3 t) (ix2 j d) = mdeq (A2 m c) (A3 m c) (bat t) j d := by
  show FloatOps.sitofp (F := Ideal) FTy.bf16 (iblk m c 2 t (ix3 0 j d)) * iblk m c 3 t (ix3 0 j ⟨d.val / 256, _⟩) = _
  rw [iblk2, iblk3]
  rfl

/-- What the scratch holds for the batch of point `t`. -/
def MB (c : Dev nD) (b : Fin 12) : Vec Ideal S2048x768 .bf16 := fun y => mdeq (A2 m c) (A3 m c) b (y 0) (y 1)

theorem MD_MB (c : Dev nD) (t : Fin cfg0.N) : MD (iblk m c 2 t) (iblk m c 3 t) = MB m c (bat t) :=
  funext fun y => by
    obtain ⟨j, d, rfl⟩ : ∃ (j : Fin 2048) (d : Fin 768), y = ix2 j d := ⟨y 0, y 1, eq_ix2 y⟩
    exact MD_eq m c t j d

/-- The scratch after any point holds the dequantised momentum of the point's batch: written at the batch's first point,
    held at the others. -/
theorem scratch_eq (c : Dev nD) (t : Fin cfg0.N) : (outsAt0 m c t.val t.isLt).2.2.2 = MB m c (bat t) := by
  have h := Pipeline.eq_of_write_hold (fun n h => (outsAt0 m c n h).2.2.2) 8 (fun t => MB m c (bat t))
    (fun t h => by
      rw [outsAt0_A m c t h]
      dsimp only
      rw [← MD_MB]
      funext y
      frame_out
      exact canonMD _ _ y)
    (fun t h => by
      rw [outsAt0_B m c t h]
      rfl) t
  refine h.trans (congrArg (MB m c) (Fin.ext ?_))
  show 8 * (t.val / 8) / 8 = t.val / 8
  omega

/-- The rows of the new momentum at a point. -/
theorem rows_eq (c : Dev nD) (t : Fin cfg0.N) (i : Fin 256) (d : Fin 768) :
    k0_pay9 (iblk m c 0 t) (iblk m c 1 t) (MB m c (bat t)) (ix2 i d) = mnew (A0 m c) (A1 m c) (A2 m c) (A3 m c) (bat t) (row t i) d := by
  rw [pay9_apply]
  refine Finset.sum_congr rfl fun j _ => congrArg₂ (· * ·) (Finset.sum_congr rfl fun k _ => ?_) rfl
  rw [iblk0, iblk1]

theorem S6_eq (c : Dev nD) (t : Fin cfg0.N) (i : Fin 256) (e : Fin 3) :
    S6 (k0_pay9 (iblk m c 0 t) (iblk m c 1 t) (MB m c (bat t))) i e = snew (A0 m c) (A1 m c) (A2 m c) (A3 m c) (bat t) (row t i) e :=
  congrArg (fun f => scale (amax f)) (funext fun l => rows_eq m c t i _)

theorem S5_eq (c : Dev nD) (t : Fin cfg0.N) (i : Fin 256) (d : Fin 768) :
    S5 (k0_pay9 (iblk m c 0 t) (iblk m c 1 t) (MB m c (bat t))) i d = R5 (A0 m c) (A1 m c) (A2 m c) (A3 m c) (ix3 (bat t) (row t i) d) :=
  congrArg₂ code (rows_eq m c t i d) (S6_eq m c t i _)

/-- The scratch before a point that is not a batch's first. -/
theorem scratch_prev (c : Dev nD) (t : Fin cfg0.N) (h : ¬t.val % 8 = 0) :
    (outsAt0 m c (t.val - 1) (Nat.lt_of_le_of_lt (Nat.sub_le _ _) t.isLt)).2.2.2 = MB m c (bat t) := by
  refine (scratch_eq m c ⟨t.val - 1, Nat.lt_of_le_of_lt (Nat.sub_le _ _) t.isLt⟩).trans (congrArg (MB m c) (Fin.ext ?_))
  show (t.val - 1) / 8 = t.val / 8
  omega

/-- What a batch's first point reads back of the scratch it has just filled. -/
theorem readBack (x2 : Vec Ideal S1x2048x768 .i8) (x3 : Vec Ideal S1x2048x3 .f32) :
    (View.whole cc0_scratch0).readCov (Val := Elt Ideal) [⟨Rect.unit ![0, 512] ![2048, 256] inb_S2048x768_S2048x256_0_512, k0_pay6 x3 (View.ld x2
        (Rect.unit ![0, 0, 512] ![1, 2048, 256] inb_S1x2048x768_S1x2048x256_0_0_512))⟩,
      ⟨Rect.unit ![0, 256] ![2048, 256] inb_S2048x768_S2048x256_0_256, k0_pay5 x3 (View.ld x2
        (Rect.unit ![0, 0, 256] ![1, 2048, 256] inb_S1x2048x768_S1x2048x256_0_0_256))⟩,
      (⟨Rect.unit ![0, 0] ![2048, 256] inb_S2048x768_S2048x256_0_0, k0_pay4 x3 (View.ld x2
        (Rect.unit ![0, 0, 0] ![1, 2048, 256] inb_S1x2048x768_S1x2048x256_0_0_0))⟩ : View.Piece (Elt Ideal) S2048x768 .bf16)]
      (Rect.unit ![0, 0] ![2048, 768] inb_S2048x768_S2048x768_0_0).toLoadRect = MD x2 x3 := by
  rw [View.readCov_eq_canon']
  funext y
  refine (canonMD x2 x3 _).trans (congrArg (MD x2 x3) ?_)
  funext a
  match a with
  | ⟨0, _⟩ => exact Fin.ext (by show 0 + 1 * (y 0).val = (y 0).val; omega)
  | ⟨1, _⟩ => exact Fin.ext (by show 0 + 1 * (y 1).val = (y 1).val; omega)

/-- The block of the new factor after a point. -/
theorem after4 (c : Dev nD) (t : Fin cfg0.N) (a : Fin 1) (k : Fin 2048) (i : Fin 256) :
    (outsAt0 m c t.val t.isLt).1 (ix3 a k i) = A0 m c (ix4 (bat t) 0 (row t i) k) := by
  by_cases h : t.val % 8 = 0
  · rw [outsAt0_A m c t h]
    dsimp only
    frame_out
    exact (pay8_apply _ a k i).trans (iblk0 m c t i k)
  · rw [outsAt0_B m c t h]
    dsimp only
    frame_out
    exact (pay8_apply _ a k i).trans (iblk0 m c t i k)

/-- The block of codes after a point. -/
theorem after5 (c : Dev nD) (t : Fin cfg0.N) (a : Fin 1) (i : Fin 256) (d : Fin 768) :
    (outsAt0 m c t.val t.isLt).2.1 (ix3 a i d) = R5 (A0 m c) (A1 m c) (A2 m c) (A3 m c) (ix3 (bat t) (row t i) d) := by
  by_cases h : t.val % 8 = 0
  · rw [outsAt0_A m c t h]
    dsimp only
    frame_out
    rw [readBack, MD_MB]
    exact (canon5 _ _ _ _).trans (S5_eq m c t i d)
  · rw [outsAt0_B m c t h]
    dsimp only
    frame_out
    rw [scratch_prev m c t h]
    simp only [read_unread_whole]
    exact (canon5 _ _ _ _).trans (S5_eq m c t i d)

/-- The block of scales after a point. -/
theorem after6 (c : Dev nD) (t : Fin cfg0.N) (a : Fin 1) (i : Fin 256) (e : Fin 3) :
    (outsAt0 m c t.val t.isLt).2.2.1 (ix3 a i e) = R6 (A0 m c) (A1 m c) (A2 m c) (A3 m c) (ix3 (bat t) (row t i) e) := by
  by_cases h : t.val % 8 = 0
  · rw [outsAt0_A m c t h]
    dsimp only
    frame_out
    rw [readBack, MD_MB]
    exact (out6 _ _ _ a i e).trans (S6_eq m c t i e)
  · rw [outsAt0_B m c t h]
    dsimp only
    frame_out
    rw [scratch_prev m c t h]
    simp only [read_unread_whole]
    exact (out6 _ _ _ a i e).trans (S6_eq m c t i e)

/-! ## The three arrays after the run -/

theorem final4 (c : Dev nD) : (dats m 0 c).arrAt 4 cfg0.N = R4 (A0 m c) := by
  refine (dats m 0 c).arrAt_eq_of_covers 4 _ (by decide +kernel) fun t hf y => ?_
  obtain ⟨a, k, i, rfl⟩ : ∃ (a : Fin 1) (k : Fin 2048) (i : Fin 256), y = ix3 a k i := ⟨y 0, y 1, y 2, eq_ix3 y⟩
  blk_simp
  rw [after0_4]
  refine (after4 m c t a k i).trans (congrArg (A0 m c) ?_)
  blk_ext [idxOut t]

theorem final5 (c : Dev nD) : (dats m 0 c).arrAt 5 cfg0.N = R5 (A0 m c) (A1 m c) (A2 m c) (A3 m c) := by
  refine (dats m 0 c).arrAt_eq_of_covers 5 _ (by decide +kernel) fun t hf y => ?_
  obtain ⟨a, i, d, rfl⟩ : ∃ (a : Fin 1) (i : Fin 256) (d : Fin 768), y = ix3 a i d := ⟨y 0, y 1, y 2, eq_ix3 y⟩
  blk_simp
  rw [after0_5]
  refine (after5 m c t a i d).trans (congrArg (R5 (A0 m c) (A1 m c) (A2 m c) (A3 m c)) ?_)
  blk_ext [idxOut t]

theorem final6 (c : Dev nD) : (dats m 0 c).arrAt 6 cfg0.N = R6 (A0 m c) (A1 m c) (A2 m c) (A3 m c) := by
  refine (dats m 0 c).arrAt_eq_of_covers 6 _ (by decide +kernel) fun t hf y => ?_
  obtain ⟨a, i, e, rfl⟩ : ∃ (a : Fin 1) (i : Fin 256) (e : Fin 3), y = ix3 a i e := ⟨y 0, y 1, y 2, eq_ix3 y⟩
  blk_simp
  rw [after0_6]
  refine (after6 m c t a i e).trans (congrArg (R6 (A0 m c) (A1 m c) (A2 m c) (A3 m c)) ?_)
  blk_ext [idxOut t]

end Cert.FinishIdeal.Math

end
-- ==== Proof.PowerGram.Cases.lean ====
/-
  Which of the body's five conditionals run at which grid point. With `s` the step within a batch element (26 steps):
  the first runs at even `s < 16`, the second at odd `s < 16`, the third at the off-diagonal superblocks, the fourth at
  the diagonal ones, the fifth at every `s ≥ 16`.
-/
module

public import proofs.«01_k».proof.Proof.Gen.PowerGram
public import proofs.«01_k».proof.Proof.Gen.PowerGram.Skeleton
public import proofs.«01_k».proof.Proof.Gen.PowerGram.Launch
public import proofs.«01_k».proof.Proof.Gen.PowerGram.Points
public import proofs.«01_k».proof.Proof.Gen.PowerGram.Frame

@[expose] public section

set_option maxRecDepth 16384

namespace Cert.PowerGram.Gen

open Idealize.ShloMosaic Idealize.ShloMosaic.TcCoe

/-- The first conditional's condition, as the body computes it from the step. -/
abbrev cond1 (i : grid0.Coords) : Prop :=
  Scalar.cmpi .ne (Scalar.extui (Scalar.andi (Scalar.cmpi .slt (BitVec.ofNat 32 (i 1).val) 16#32)
    (Scalar.xori (Scalar.cmpi .eq (Scalar.andi (BitVec.ofNat 32 (i 1).val) 1#32) 1#32) 1#1)) : BitVec 32) 0#32 = 1#1

/-- The steps of the diagonal superblocks. -/
abbrev isDiag (s : ℕ) : Prop := s = 16 ∨ s = 18 ∨ s = 21 ∨ s = 25

theorem cond1_iff : ∀ t : Fin cfg0.N, cond1 (grid0.coords t) ↔ t.val % 26 < 16 ∧ t.val % 2 = 0 := by decide +kernel
theorem cond2_iff : ∀ t : Fin cfg0.N, k0_cond2 (grid0.coords t) = 1#1 ↔ t.val % 26 < 16 ∧ t.val % 2 = 1 := by decide +kernel
theorem cond3_iff : ∀ t : Fin cfg0.N, k0_cond3 (grid0.coords t) = 1#1 ↔ 16 ≤ t.val % 26 ∧ ¬ isDiag (t.val % 26) := by decide +kernel
theorem cond4_iff : ∀ t : Fin cfg0.N, k0_cond4 (grid0.coords t) = 1#1 ↔ isDiag (t.val % 26) := by decide +kernel
theorem cond5_iff : ∀ t : Fin cfg0.N, k0_cond5 (grid0.coords t) = 1#1 ↔ 16 ≤ t.val % 26 := by decide +kernel

end Cert.PowerGram.Gen

end
-- ==== Proof.PowerGram.RunA.lean ====
/-
  The body at an even step below 16: the row block of `s` is split into its three parts and the two smaller parts are multiplied with `q`.
-/
module

public import proofs.«01_k».proof.Proof.PowerGram.Cases

@[expose] public section

set_option maxRecDepth 16384

noncomputable section

namespace Cert.PowerGram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [BitOps F]

local notation "𝕄" => MT nD τ sig Unit (Elt F) ℕ (UR sig nD τ) ℕ

set_option maxHeartbeats 1000000 in
/-- The run: the read buffers as they were, each written buffer at its old contents with the run's pieces written over them. -/
noncomputable def runA (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : cond1 i) (h2 : ¬ k0_cond2 i = 1#1) (h3 : ¬ k0_cond3 i = 1#1) (h4 : ¬ k0_cond4 i = 1#1) (h5 : ¬ k0_cond5 i = 1#1)
    (x2 : Vec F S1x256x2048 .f32) (x3 : Vec F S1x2048x2048 .bf16) (x6 : Vec F S256x6144 .bf16) (x8 : Vec F S256x2048 .f32) :
    Σ' (L6 : (List (View.Piece (Elt F) S256x6144 .bf16))), { L8 : (List (View.Piece (Elt F) S256x2048 .f32)) //
      ∀ (E : Set ℕ) (K : PUnit → sProp 𝕄),
        iprop(owns (c : Thread nD τ) arg2 fullShare x2 ∗ owns (c : Thread nD τ) arg3 fullShare x3 ∗ owns (c : Thread nD τ) arg6 fullShare x6 ∗ owns (c : Thread nD τ) arg8 fullShare x8
            ∗ (iprop(owns (c : Thread nD τ) arg2 fullShare x2 ∗ owns (c : Thread nD τ) arg3 fullShare x3 ∗ owns (c : Thread nD τ) arg6 fullShare (arg6.view.read (Elt F) (arg6.view.writes (Elt F) (harg6.unread x6) L6)) ∗ owns (c : Thread nD τ) arg8 fullShare (arg8.view.read (Elt F) (arg8.view.writes (Elt F) (harg8.unread x8) L8))) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f2, %hf2, H2⟩, ⟨%f3, %hf3, H3⟩, ⟨%f6, %hf6, H6⟩, ⟨%f8, %hf8, H8⟩, Hk⟩
    obtain rfl := harg2.eq_unread hf2; obtain rfl := harg3.eq_unread hf3; obtain rfl := harg6.eq_unread hf6; obtain rfl := harg8.eq_unread hf8
    sl_exec (disch := first | sl_exact h1 | sl_exact h2 | sl_exact h3 | sl_exact h4 | sl_exact h5)
    sl_step
    iapply Hk
    isplitl [H2]
    · iexists _; isplitr
      swap; · iexact H2
      ipureintro; exact harg2.read_unread _
    isplitl [H3]
    · iexists _; isplitr
      swap; · iexact H3
      ipureintro; exact harg3.read_unread _
    isplitl [H6]
    · iexists _; isplitr
      swap; · iexact H6
      ipureintro; rfl
    iexists _; isplitr
    swap; · iexact H8
    ipureintro; rfl

end Cert.PowerGram.Gen

end
-- ==== Proof.PowerGram.RunB.lean ====
/-
  The body at an odd step below 16: the block of the product is finished, handed out transposed, and kept split in three.
-/
module

public import proofs.«01_k».proof.Proof.PowerGram.RunA

@[expose] public section

set_option maxRecDepth 16384

noncomputable section

namespace Cert.PowerGram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [BitOps F]

local notation "𝕄" => MT nD τ sig Unit (Elt F) ℕ (UR sig nD τ) ℕ

set_option maxHeartbeats 1000000 in
/-- The run: the read buffers as they were, each written buffer at its old contents with the run's pieces written over them. -/
noncomputable def runB (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : ¬ cond1 i) (h2 : k0_cond2 i = 1#1) (h3 : ¬ k0_cond3 i = 1#1) (h4 : ¬ k0_cond4 i = 1#1) (h5 : ¬ k0_cond5 i = 1#1)
    (x3 : Vec F S1x2048x2048 .bf16) (x4 : Vec F S1x2048x256 .f32) (x6 : Vec F S256x6144 .bf16) (x7 : Vec F S3x2048x2048 .bf16) (x8 : Vec F S256x2048 .f32) :
    Σ' (L4 : (List (View.Piece (Elt F) S1x2048x256 .f32))), { L7 : (List (View.Piece (Elt F) S3x2048x2048 .bf16)) //
      ∀ (E : Set ℕ) (K : PUnit → sProp 𝕄),
        iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8
            ∗ (iprop(owns (c : Thread nD τ) arg3 fullShare x3 ∗ owns (c : Thread nD τ) arg4 fullShare (arg4.view.read (Elt F) (arg4.view.writes (Elt F) (harg4.unread x4) L4)) ∗ owns (c : Thread nD τ) arg6 fullShare x6 ∗ owns (c : Thread nD τ) arg7 fullShare (arg7.view.read (Elt F) (arg7.view.writes (Elt F) (harg7.unread x7) L7)) ∗ owns (c : Thread nD τ) arg8 fullShare x8) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f3, %hf3, H3⟩, ⟨%f4, %hf4, H4⟩, ⟨%f6, %hf6, H6⟩, ⟨%f7, %hf7, H7⟩, ⟨%f8, %hf8, H8⟩, Hk⟩
    obtain rfl := harg3.eq_unread hf3; obtain rfl := harg4.eq_unread hf4; obtain rfl := harg6.eq_unread hf6; obtain rfl := harg7.eq_unread hf7; obtain rfl := harg8.eq_unread hf8
    sl_exec (disch := first | sl_exact h1 | sl_exact h2 | sl_exact h3 | sl_exact h4 | sl_exact h5)
    sl_step
    iapply Hk
    isplitl [H3]
    · iexists _; isplitr
      swap; · iexact H3
      ipureintro; exact harg3.read_unread _
    isplitl [H4]
    · iexists _; isplitr
      swap; · iexact H4
      ipureintro; rfl
    isplitl [H6]
    · iexists _; isplitr
      swap; · iexact H6
      ipureintro; exact harg6.read_unread _
    isplitl [H7]
    · iexists _; isplitr
      swap; · iexact H7
      ipureintro; rfl
    iexists _; isplitr
    swap; · iexact H8
    ipureintro; exact harg8.read_unread _

end Cert.PowerGram.Gen

end
-- ==== Proof.PowerGram.RunC.lean ====
/-
  The body at an off-diagonal superblock of the Gram matrix.
-/
module

public import proofs.«01_k».proof.Proof.PowerGram.RunB

@[expose] public section

set_option maxRecDepth 16384

noncomputable section

namespace Cert.PowerGram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [BitOps F]

local notation "𝕄" => MT nD τ sig Unit (Elt F) ℕ (UR sig nD τ) ℕ

set_option maxHeartbeats 1000000 in
/-- The run: the read buffers as they were, each written buffer at its old contents with the run's pieces written over them. -/
noncomputable def runC (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : ¬ cond1 i) (h2 : ¬ k0_cond2 i = 1#1) (h3 : k0_cond3 i = 1#1) (h4 : ¬ k0_cond4 i = 1#1) (h5 : k0_cond5 i = 1#1)
    (x5 : Vec F S1x512x512 .f32) (x7 : Vec F S3x2048x2048 .bf16) (x8 : Vec F S256x2048 .f32) :
    Σ' (L5 : (List (View.Piece (Elt F) S1x512x512 .f32))), { L8 : (List (View.Piece (Elt F) S256x2048 .f32)) //
      ∀ (E : Set ℕ) (K : PUnit → sProp 𝕄),
        iprop(owns (c : Thread nD τ) arg5 fullShare x5 ∗ owns (c : Thread nD τ) arg7 fullShare x7 ∗ owns (c : Thread nD τ) arg8 fullShare x8
            ∗ (iprop(owns (c : Thread nD τ) arg5 fullShare (arg5.view.read (Elt F) (arg5.view.writes (Elt F) (harg5.unread x5) L5)) ∗ owns (c : Thread nD τ) arg7 fullShare x7 ∗ owns (c : Thread nD τ) arg8 fullShare (arg8.view.read (Elt F) (arg8.view.writes (Elt F) (harg8.unread x8) L8))) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f5, %hf5, H5⟩, ⟨%f7, %hf7, H7⟩, ⟨%f8, %hf8, H8⟩, Hk⟩
    obtain rfl := harg5.eq_unread hf5; obtain rfl := harg7.eq_unread hf7; obtain rfl := harg8.eq_unread hf8
    sl_exec (disch := first | sl_exact h1 | sl_exact h2 | sl_exact h3 | sl_exact h4 | sl_exact h5)
    sl_step
    iapply Hk
    isplitl [H5]
    · iexists _; isplitr
      swap; · iexact H5
      ipureintro; rfl
    isplitl [H7]
    · iexists _; isplitr
      swap; · iexact H7
      ipureintro; exact harg7.read_unread _
    iexists _; isplitr
    swap; · iexact H8
    ipureintro; rfl

end Cert.PowerGram.Gen

end
-- ==== Proof.PowerGram.RunD.lean ====
/-
  The body at a diagonal superblock of the Gram matrix.
-/
module

public import proofs.«01_k».proof.Proof.PowerGram.RunC

@[expose] public section

set_option maxRecDepth 16384

noncomputable section

namespace Cert.PowerGram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [BitOps F]

local notation "𝕄" => MT nD τ sig Unit (Elt F) ℕ (UR sig nD τ) ℕ

set_option maxHeartbeats 1000000 in
/-- The run: the read buffers as they were, each written buffer at its old contents with the run's pieces written over them. -/
noncomputable def runD (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : ¬ cond1 i) (h2 : ¬ k0_cond2 i = 1#1) (h3 : ¬ k0_cond3 i = 1#1) (h4 : k0_cond4 i = 1#1) (h5 : k0_cond5 i = 1#1)
    (x5 : Vec F S1x512x512 .f32) (x7 : Vec F S3x2048x2048 .bf16) (x8 : Vec F S256x2048 .f32) :
    Σ' (L5 : (List (View.Piece (Elt F) S1x512x512 .f32))), { L8 : (List (View.Piece (Elt F) S256x2048 .f32)) //
      ∀ (E : Set ℕ) (K : PUnit → sProp 𝕄),
        iprop(owns (c : Thread nD τ) arg5 fullShare x5 ∗ owns (c : Thread nD τ) arg7 fullShare x7 ∗ owns (c : Thread nD τ) arg8 fullShare x8
            ∗ (iprop(owns (c : Thread nD τ) arg5 fullShare (arg5.view.read (Elt F) (arg5.view.writes (Elt F) (harg5.unread x5) L5)) ∗ owns (c : Thread nD τ) arg7 fullShare x7 ∗ owns (c : Thread nD τ) arg8 fullShare (arg8.view.read (Elt F) (arg8.view.writes (Elt F) (harg8.unread x8) L8))) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f5, %hf5, H5⟩, ⟨%f7, %hf7, H7⟩, ⟨%f8, %hf8, H8⟩, Hk⟩
    obtain rfl := harg5.eq_unread hf5; obtain rfl := harg7.eq_unread hf7; obtain rfl := harg8.eq_unread hf8
    sl_exec (disch := first | sl_exact h1 | sl_exact h2 | sl_exact h3 | sl_exact h4 | sl_exact h5)
    sl_step
    iapply Hk
    isplitl [H5]
    · iexists _; isplitr
      swap; · iexact H5
      ipureintro; rfl
    isplitl [H7]
    · iexists _; isplitr
      swap; · iexact H7
      ipureintro; exact harg7.read_unread _
    iexists _; isplitr
    swap; · iexact H8
    ipureintro; rfl

end Cert.PowerGram.Gen

end
-- ==== Proof.PowerGram.Body.lean ====
/-
  The kernel's proof data, stated relationally, over any invariant of the three scratch buffers. `Track` names what is said
  of the scratch before each point and of the two output blocks after it; `Track.Sound` is what each of the four kinds of
  point has to establish; from it follow the body obligation and the launch.
-/
module

public import proofs.«01_k».proof.Proof.PowerGram.RunD

@[expose] public section

set_option maxRecDepth 16384

noncomputable section

namespace Cert.PowerGram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The staging buffers and the scratch -/

abbrev ms0 (t : Fin cfg0.N) : Memref sig .tc .vmem S1x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x512 .f32 := win0_3.stage (cfg0.slots t 3)
abbrev hs3 (t : Fin cfg0.N) : (ms3 t).IsWhole := hstage0_3 ((cfg0.slots t 3).cast nbuf0_3)
abbrev sc0 : Memref sig .tc .vmem S256x6144 .bf16 := Memref.whole cc0_scratch0
abbrev sc1 : Memref sig .tc .vmem S3x2048x2048 .bf16 := Memref.whole cc0_scratch1
abbrev sc2 : Memref sig .tc .vmem S256x2048 .f32 := Memref.whole cc0_scratch2
abbrev hsc0 : (sc0).IsWhole := Memref.isWhole_whole _
abbrev hsc1 : (sc1).IsWhole := Memref.isWhole_whole _
abbrev hsc2 : (sc2).IsWhole := Memref.isWhole_whole _

/-! ## What is tracked -/

/-- What is said of the scratch before point `n` (`I`), and of each output block's buffer at point `t`, found at `Y` and
    left at `X`. -/
structure Track (F : FTy → Type) where
  I : ℕ → Vec F S256x6144 .bf16 → Vec F S3x2048x2048 .bf16 → Vec F S256x2048 .f32 → Prop
  A2 : Fin cfg0.N → Vec F S1x2048x256 .f32 → Vec F S1x2048x256 .f32 → Prop
  A3 : Fin cfg0.N → Vec F S1x512x512 .f32 → Vec F S1x512x512 .f32 → Prop

/-- What the run leaves at an even step below 16: the split row block and the partial product. -/
def ssA (c : Dev nD) (t : Fin cfg0.N) (h1 : cond1 (grid0.coords t)) (h2 : ¬ k0_cond2 (grid0.coords t) = 1#1) (h3 : ¬ k0_cond3 (grid0.coords t) = 1#1) (h4 : ¬ k0_cond4 (grid0.coords t) = 1#1) (h5 : ¬ k0_cond5 (grid0.coords t) = 1#1) (x2 : Vec F S1x256x2048 .f32) (x3 : Vec F S1x2048x2048 .bf16) (a : Vec F S256x6144 .bf16) (d : Vec F S256x2048 .f32) : Vec F S256x6144 .bf16 :=
  sc0.view.read (Elt F) (sc0.view.writes (Elt F) (hsc0.unread a) (runA c (grid0.coords t) (ms0 t) (hs0 t) (ms1 t) (hs1 t) (ms2 t) (hs2 t) (ms3 t) (hs3 t) sc0 hsc0 sc1 hsc1 sc2 hsc2 h1 h2 h3 h4 h5 x2 x3 a d).1)
def tmpA (c : Dev nD) (t : Fin cfg0.N) (h1 : cond1 (grid0.coords t)) (h2 : ¬ k0_cond2 (grid0.coords t) = 1#1) (h3 : ¬ k0_cond3 (grid0.coords t) = 1#1) (h4 : ¬ k0_cond4 (grid0.coords t) = 1#1) (h5 : ¬ k0_cond5 (grid0.coords t) = 1#1) (x2 : Vec F S1x256x2048 .f32) (x3 : Vec F S1x2048x2048 .bf16) (a : Vec F S256x6144 .bf16) (d : Vec F S256x2048 .f32) : Vec F S256x2048 .f32 :=
  sc2.view.read (Elt F) (sc2.view.writes (Elt F) (hsc2.unread d) (runA c (grid0.coords t) (ms0 t) (hs0 t) (ms1 t) (hs1 t) (ms2 t) (hs2 t) (ms3 t) (hs3 t) sc0 hsc0 sc1 hsc1 sc2 hsc2 h1 h2 h3 h4 h5 x2 x3 a d).2.1)
/-- What the run leaves at an odd step below 16: the block of the product, and the kept parts. -/
def xB (c : Dev nD) (t : Fin cfg0.N) (h1 : ¬ cond1 (grid0.coords t)) (h2 : k0_cond2 (grid0.coords t) = 1#1) (h3 : ¬ k0_cond3 (grid0.coords t) = 1#1) (h4 : ¬ k0_cond4 (grid0.coords t) = 1#1) (h5 : ¬ k0_cond5 (grid0.coords t) = 1#1) (x3 : Vec F S1x2048x2048 .bf16) (y : Vec F S1x2048x256 .f32) (a : Vec F S256x6144 .bf16) (b : Vec F S3x2048x2048 .bf16) (d : Vec F S256x2048 .f32) : Vec F S1x2048x256 .f32 :=
  (ms2 t).view.read (Elt F) ((ms2 t).view.writes (Elt F) ((hs2 t).unread y) (runB c (grid0.coords t) (ms0 t) (hs0 t) (ms1 t) (hs1 t) (ms2 t) (hs2 t) (ms3 t) (hs3 t) sc0 hsc0 sc1 hsc1 sc2 hsc2 h1 h2 h3 h4 h5 x3 y a b d).1)
def xsB (c : Dev nD) (t : Fin cfg0.N) (h1 : ¬ cond1 (grid0.coords t)) (h2 : k0_cond2 (grid0.coords t) = 1#1) (h3 : ¬ k0_cond3 (grid0.coords t) = 1#1) (h4 : ¬ k0_cond4 (grid0.coords t) = 1#1) (h5 : ¬ k0_cond5 (grid0.coords t) = 1#1) (x3 : Vec F S1x2048x2048 .bf16) (y : Vec F S1x2048x256 .f32) (a : Vec F S256x6144 .bf16) (b : Vec F S3x2048x2048 .bf16) (d : Vec F S256x2048 .f32) : Vec F S3x2048x2048 .bf16 :=
  sc1.view.read (Elt F) (sc1.view.writes (Elt F) (hsc1.unread b) (runB c (grid0.coords t) (ms0 t) (hs0 t) (ms1 t) (hs1 t) (ms2 t) (hs2 t) (ms3 t) (hs3 t) sc0 hsc0 sc1 hsc1 sc2 hsc2 h1 h2 h3 h4 h5 x3 y a b d).2.1)
/-- What the run leaves at an off-diagonal superblock: its block of the Gram matrix, and the temporary sums. -/
def gC (c : Dev nD) (t : Fin cfg0.N) (h1 : ¬ cond1 (grid0.coords t)) (h2 : ¬ k0_cond2 (grid0.coords t) = 1#1) (h3 : k0_cond3 (grid0.coords t) = 1#1) (h4 : ¬ k0_cond4 (grid0.coords t) = 1#1) (h5 : k0_cond5 (grid0.coords t) = 1#1) (y : Vec F S1x512x512 .f32) (b : Vec F S3x2048x2048 .bf16) (d : Vec F S256x2048 .f32) : Vec F S1x512x512 .f32 :=
  (ms3 t).view.read (Elt F) ((ms3 t).view.writes (Elt F) ((hs3 t).unread y) (runC c (grid0.coords t) (ms0 t) (hs0 t) (ms1 t) (hs1 t) (ms2 t) (hs2 t) (ms3 t) (hs3 t) sc0 hsc0 sc1 hsc1 sc2 hsc2 h1 h2 h3 h4 h5 y b d).1)
def tmpC (c : Dev nD) (t : Fin cfg0.N) (h1 : ¬ cond1 (grid0.coords t)) (h2 : ¬ k0_cond2 (grid0.coords t) = 1#1) (h3 : k0_cond3 (grid0.coords t) = 1#1) (h4 : ¬ k0_cond4 (grid0.coords t) = 1#1) (h5 : k0_cond5 (grid0.coords t) = 1#1) (y : Vec F S1x512x512 .f32) (b : Vec F S3x2048x2048 .bf16) (d : Vec F S256x2048 .f32) : Vec F S256x2048 .f32 :=
  sc2.view.read (Elt F) (sc2.view.writes (Elt F) (hsc2.unread d) (runC c (grid0.coords t) (ms0 t) (hs0 t) (ms1 t) (hs1 t) (ms2 t) (hs2 t) (ms3 t) (hs3 t) sc0 hsc0 sc1 hsc1 sc2 hsc2 h1 h2 h3 h4 h5 y b d).2.1)
/-- What the run leaves at a diagonal superblock. -/
def gD (c : Dev nD) (t : Fin cfg0.N) (h1 : ¬ cond1 (grid0.coords t)) (h2 : ¬ k0_cond2 (grid0.coords t) = 1#1) (h3 : ¬ k0_cond3 (grid0.coords t) = 1#1) (h4 : k0_cond4 (grid0.coords t) = 1#1) (h5 : k0_cond5 (grid0.coords t) = 1#1) (y : Vec F S1x512x512 .f32) (b : Vec F S3x2048x2048 .bf16) (d : Vec F S256x2048 .f32) : Vec F S1x512x512 .f32 :=
  (ms3 t).view.read (Elt F) ((ms3 t).view.writes (Elt F) ((hs3 t).unread y) (runD c (grid0.coords t) (ms0 t) (hs0 t) (ms1 t) (hs1 t) (ms2 t) (hs2 t) (ms3 t) (hs3 t) sc0 hsc0 sc1 hsc1 sc2 hsc2 h1 h2 h3 h4 h5 y b d).1)
def tmpD (c : Dev nD) (t : Fin cfg0.N) (h1 : ¬ cond1 (grid0.coords t)) (h2 : ¬ k0_cond2 (grid0.coords t) = 1#1) (h3 : ¬ k0_cond3 (grid0.coords t) = 1#1) (h4 : k0_cond4 (grid0.coords t) = 1#1) (h5 : k0_cond5 (grid0.coords t) = 1#1) (y : Vec F S1x512x512 .f32) (b : Vec F S3x2048x2048 .bf16) (d : Vec F S256x2048 .f32) : Vec F S256x2048 .f32 :=
  sc2.view.read (Elt F) (sc2.view.writes (Elt F) (hsc2.unread d) (runD c (grid0.coords t) (ms0 t) (hs0 t) (ms1 t) (hs1 t) (ms2 t) (hs2 t) (ms3 t) (hs3 t) sc0 hsc0 sc1 hsc1 sc2 hsc2 h1 h2 h3 h4 h5 y b d).2.1)

/-- What a `Track` has to satisfy: nothing is asked before the first point, and each kind of point goes on to the next. -/
structure Track.Sound (T : Track F) (c : Dev nD) : Prop where
  zero : ∀ a b d, T.I 0 a b d
  A : ∀ (t : Fin cfg0.N) h1 h2 h3 h4 h5 y2 y3 a b d, T.I t.val a b d →
    T.I (t.val + 1) (ssA c t h1 h2 h3 h4 h5 (iblk m c 0 t) (iblk m c 1 t) a d) b (tmpA c t h1 h2 h3 h4 h5 (iblk m c 0 t) (iblk m c 1 t) a d)
      ∧ T.A2 t y2 y2 ∧ T.A3 t y3 y3
  B : ∀ (t : Fin cfg0.N) h1 h2 h3 h4 h5 y2 y3 a b d, T.I t.val a b d →
    T.I (t.val + 1) a (xsB c t h1 h2 h3 h4 h5 (iblk m c 1 t) y2 a b d) d
      ∧ T.A2 t y2 (xB c t h1 h2 h3 h4 h5 (iblk m c 1 t) y2 a b d) ∧ T.A3 t y3 y3
  C : ∀ (t : Fin cfg0.N) h1 h2 h3 h4 h5 y2 y3 a b d, T.I t.val a b d →
    T.I (t.val + 1) a b (tmpC c t h1 h2 h3 h4 h5 y3 b d) ∧ T.A2 t y2 y2 ∧ T.A3 t y3 (gC c t h1 h2 h3 h4 h5 y3 b d)
  D : ∀ (t : Fin cfg0.N) h1 h2 h3 h4 h5 y2 y3 a b d, T.I t.val a b d →
    T.I (t.val + 1) a b (tmpD c t h1 h2 h3 h4 h5 y3 b d) ∧ T.A2 t y2 y2 ∧ T.A3 t y3 (gD c t h1 h2 h3 h4 h5 y3 b d)

/-! ## The proof data -/

/-- The scratch at contents of which `I` holds, and the generator register at some state. -/
def scrΦ (T : Track F) (c : Dev nD) (n : ℕ) : sProp 𝕄 :=
  iprop((∃ a, ∃ b, ∃ d, ⌜T.I n a b d⌝ ∗ owns (c : Thread nD τ) sc0 fullShare a ∗ owns (c : Thread nD τ) sc1 fullShare b ∗ owns (c : Thread nD τ) sc2 fullShare d) ∗ (∃ r, prngReg c r))

/-- What the body may leave in each window's buffer: an input as found, an output as `T` says. -/
def aft (T : Track F) : (w : Fin cfg0.W) → Fin cfg0.N → (Y X : (cfg0.win w).block.Idx → Elt F (cfg0.win w).elt) → Prop
  | 0 => fun _ Y X => X = Y
  | 1 => fun _ Y X => X = Y
  | 2 => T.A2
  | 3 => T.A3
  | ⟨_ + 4, h⟩ => absurd h (Nat.not_lt.2 (Nat.le_add_left _ _))

def rdat (T : Track F) (c : Dev nD) : RDat τ (Elt F) Unit ℕ (UR sig nD τ) ℕ cfg0 c where
  A := fun w => V m c (Pipeline.arrRef spec0 w)
  after := aft T
  Φ := fun n => scrΦ T c n.val
  q := fun _ => fullShare
  owed := fun _ => 0

theorem finds0 (T : Track F) (c : Dev nD) (t : Fin cfg0.N) (Y) (h : (rdat m T c).Finds 0 t Y) : Y = iblk m c 0 t := by
  obtain ⟨d, rfl⟩ := Pipeline.RDat.finds_in_eq_fetched (rdat m T c) 0 rfl (fun _ _ _ => rfl) (fun _ _ _ e => e) t Y h
  unfold RDat.fetched RDat.blockOf iblk; rfl

theorem finds1 (T : Track F) (c : Dev nD) (t : Fin cfg0.N) (Y) (h : (rdat m T c).Finds 1 t Y) : Y = iblk m c 1 t := by
  obtain ⟨d, rfl⟩ := Pipeline.RDat.finds_in_eq_fetched (rdat m T c) 1 rfl (fun _ _ _ => rfl) (fun _ _ _ e => e) t Y h
  unfold RDat.fetched RDat.blockOf iblk; rfl

/-! ## The body -/

/-- What the body is called with at point `t`, the output buffers at `y2` and `y3`. -/
def bodyPre (T : Track F) (c : Dev nD) (t : Fin cfg0.N) (y2 : Vec F S1x2048x256 .f32) (y3 : Vec F S1x512x512 .f32) : sProp 𝕄 :=
  iprop(scrΦ T c t.val ∗ (rdat m T c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare y2
    ∗ owns (c : Thread nD τ) (ms3 t) fullShare y3)

/-- What it returns. -/
def bodyPost (T : Track F) (c : Dev nD) (t : Fin cfg0.N) (y2 : Vec F S1x2048x256 .f32) (y3 : Vec F S1x512x512 .f32) : sProp 𝕄 :=
  iprop(scrΦ T c (t.val + 1) ∗ (rdat m T c).owesAt () t.castSucc
    ∗ owns (c : Thread nD τ) (ms0 t) fullShare (iblk m c 0 t)
    ∗ owns (c : Thread nD τ) (ms1 t) fullShare (iblk m c 1 t)
    ∗ (∃ X, ⌜T.A2 t y2 X⌝ ∗ owns (c : Thread nD τ) (ms2 t) fullShare X)
    ∗ (∃ X, ⌜T.A3 t y3 X⌝ ∗ owns (c : Thread nD τ) (ms3 t) fullShare X))

set_option maxHeartbeats 3200000 in
/-- The body at any point. -/
theorem sound_body (T : Track F) (c : Dev nD) (hT : T.Sound m c) (t : Fin cfg0.N) (y2 : Vec F S1x2048x256 .f32) (y3 : Vec F S1x512x512 .f32) :
    bodyPre m T c t y2 y3 ⊢ wp frame (wpE (defs₀ (F := F)) Variants.none c none) Set.univ (bodyAt0 t) (fun _ => bodyPost m T c t y2 y3) := by
  unfold bodyPre bodyPost bodyAt0 scrΦ
  iintro ⟨⟨⟨%a, %b, %d, %hI, S0, S1, S2⟩, Hg⟩, Ho, H0, H1, H2, H3⟩
  by_cases hs : t.val % 26 < 16
  · have h3 : ¬ k0_cond3 (grid0.coords t) = 1#1 := fun h => by have := (cond3_iff t).mp h; omega
    have h4 : ¬ k0_cond4 (grid0.coords t) = 1#1 := fun h => by have := (cond4_iff t).mp h; omega
    have h5 : ¬ k0_cond5 (grid0.coords t) = 1#1 := fun h => by have := (cond5_iff t).mp h; omega
    by_cases he : t.val % 2 = 0
    · have h1 : cond1 (grid0.coords t) := (cond1_iff t).mpr ⟨hs, he⟩
      have h2 : ¬ k0_cond2 (grid0.coords t) = 1#1 := fun h => by have := (cond2_iff t).mp h; omega
      iapply ((runA c (grid0.coords t) (ms0 t) (hs0 t) (ms1 t) (hs1 t) (ms2 t) (hs2 t) (ms3 t) (hs3 t) sc0 hsc0 sc1 hsc1 sc2 hsc2 h1 h2 h3 h4 h5 (iblk m c 0 t) (iblk m c 1 t) a d).2.2 Set.univ _)
      isplitl [H0]; · iexact H0
      isplitl [H1]; · iexact H1
      isplitl [S0]; · iexact S0
      isplitl [S2]; · iexact S2
      iintro ⟨H0, H1, S0, S2⟩
      have hX := hT.A t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2
    · have h1 : ¬ cond1 (grid0.coords t) := fun h => by have := (cond1_iff t).mp h; omega
      have h2 : k0_cond2 (grid0.coords t) = 1#1 := (cond2_iff t).mpr ⟨hs, by omega⟩
      iapply ((runB c (grid0.coords t) (ms0 t) (hs0 t) (ms1 t) (hs1 t) (ms2 t) (hs2 t) (ms3 t) (hs3 t) sc0 hsc0 sc1 hsc1 sc2 hsc2 h1 h2 h3 h4 h5 (iblk m c 1 t) y2 a b d).2.2 Set.univ _)
      isplitl [H1]; · iexact H1
      isplitl [H2]; · iexact H2
      isplitl [S0]; · iexact S0
      isplitl [S1]; · iexact S1
      isplitl [S2]; · iexact S2
      iintro ⟨H1, H2, S0, S1, S2⟩
      have hX := hT.B t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2
  · have h1 : ¬ cond1 (grid0.coords t) := fun h => by have := (cond1_iff t).mp h; omega
    have h2 : ¬ k0_cond2 (grid0.coords t) = 1#1 := fun h => by have := (cond2_iff t).mp h; omega
    have h5 : k0_cond5 (grid0.coords t) = 1#1 := (cond5_iff t).mpr (by omega)
    by_cases hd : isDiag (t.val % 26)
    · have h3 : ¬ k0_cond3 (grid0.coords t) = 1#1 := fun h => ((cond3_iff t).mp h).2 hd
      have h4 : k0_cond4 (grid0.coords t) = 1#1 := (cond4_iff t).mpr hd
      iapply ((runD c (grid0.coords t) (ms0 t) (hs0 t) (ms1 t) (hs1 t) (ms2 t) (hs2 t) (ms3 t) (hs3 t) sc0 hsc0 sc1 hsc1 sc2 hsc2 h1 h2 h3 h4 h5 y3 b d).2.2 Set.univ _)
      isplitl [H3]; · iexact H3
      isplitl [S1]; · iexact S1
      isplitl [S2]; · iexact S2
      iintro ⟨H3, S1, S2⟩
      have hX := hT.D t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2
    · have h3 : k0_cond3 (grid0.coords t) = 1#1 := (cond3_iff t).mpr ⟨by omega, hd⟩
      have h4 : ¬ k0_cond4 (grid0.coords t) = 1#1 := fun h => hd ((cond4_iff t).mp h)
      iapply ((runC c (grid0.coords t) (ms0 t) (hs0 t) (ms1 t) (hs1 t) (ms2 t) (hs2 t) (ms3 t) (hs3 t) sc0 hsc0 sc1 hsc1 sc2 hsc2 h1 h2 h3 h4 h5 y3 b d).2.2 Set.univ _)
      isplitl [H3]; · iexact H3
      isplitl [S1]; · iexact S1
      isplitl [S2]; · iexact S2
      iintro ⟨H3, S1, S2⟩
      have hX := hT.C t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (T : Track F) (c : Dev nD) (hT : T.Sound m c) :
    (rdat m T c).BodyObligation (defs₀ (F := F)) Variants.none () Set.univ := fun t Y hY => by
  rw [bigSep_W0, bigSep_W0, defs₀_row, finds0 m T c t _ (hY 0), finds1 m T c t _ (hY 1)]
  refine triple_restated (sound_body m T c hT t (Y 2) (Y 3)) rfl .rfl fun _ => ?_
  unfold bodyPost
  rw [show (rdat m T c).Φ t.succ = scrΦ T c (t.val + 1) from rfl]
  iintro ⟨HΦ, Ho, H0, H1, H2, H3⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  isplitl [H2]; · iexact H2
  iexact H3

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem hin (T : Track F) (c : Dev nD) (hT : T.Sound m c) : Pipeline.ΦA spec0 c ⊢ (rdat m T c).Φ 0 := by
  rw [PhiA0_eq, show (rdat m T c).Φ 0 = scrΦ T c 0 from rfl]
  unfold scrΦ
  iintro ⟨⟨⟨%a, S0⟩, ⟨%b, S1⟩, ⟨%d, S2⟩⟩, Hg⟩
  isplitl [S0 S1 S2]
  · iexists _, _, _
    isplitr
    · ipureintro; exact hT.zero a b d
    isplitl [S0]; · iexact S0
    isplitl [S1]; · iexact S1
    iexact S2
  iexact Hg

theorem hout (T : Track F) (c : Dev nD) : (rdat m T c).Φ (Fin.last cfg0.N) ⊢ Pipeline.ΦA spec0 c := by
  rw [PhiA0_eq, show (rdat m T c).Φ (Fin.last cfg0.N) = scrΦ T c (Fin.last cfg0.N).val from rfl]
  unfold scrΦ
  iintro ⟨⟨%a, %b, %d, %hI, S0, S1, S2⟩, Hg⟩
  isplitl [S0 S1 S2]
  · isplitl [S0]; · iexists _; iexact S0
    isplitl [S1]; · iexists _; iexact S1
    iexists _; iexact S2
  iexact Hg

/-! ## The run -/

set_option backward.isDefEq.respectTransparency.types false in
/-- The launch: every array at what the tracked relations allow, and every semaphore at zero. -/
theorem run_track (T : Dev nD → Track F) (hT : ∀ c, (T c).Sound m c) :
    θ_run defs (onTc (τ := τ) (main (F := F))) (s₀ m ρ) (fun r => RDat.FramePost cfg0 (fun c => rdat m (T c) c) (V m) r ∧ r.2.sem = fun _ => 0) :=
  Pipeline.RDat.θ_run_frame_track (Q' := _) cfgs (0 : Fin 1) launch0 defs₀ Variants.none (fun c => rdat m (T c) c) m ρ main
    (hbody := fun c => body_obligation m (T c) c (hT c)) (hshare := fun c => (rdat m (T c) c).share_full fun _ => rfl)
    (howed := fun _ _ => rfl) (V := V m) (hmain := hmain m Variants.none) (hA := fun _ _ => rfl)
    (hin := fun c => hin m (T c) c (hT c)) (hout := fun c => hout m (T c) c)

/-- From such a run: the argument arrays end as they were. -/
theorem args_kept (T : Dev nD → Track F) (r : PUnit × MemSt nD τ sig (Elt F)) (h : RDat.FramePost cfg0 (fun c => rdat m (T c) c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨Pipeline.RDat.FramePost.arr_in h c 0 rfl, Pipeline.RDat.FramePost.arr_in h c 1 rfl⟩

/-- Nothing tracked. -/
def noTrack : Track F := ⟨fun _ _ _ _ => True, fun _ _ _ => True, fun _ _ _ => True⟩

theorem noTrack_sound (c : Dev nD) : (noTrack : Track F).Sound m c where
  zero := fun _ _ _ => trivial
  A := fun _ _ _ _ _ _ _ _ _ _ _ _ => ⟨trivial, trivial, trivial⟩
  B := fun _ _ _ _ _ _ _ _ _ _ _ _ => ⟨trivial, trivial, trivial⟩
  C := fun _ _ _ _ _ _ _ _ _ _ _ _ => ⟨trivial, trivial, trivial⟩
  D := fun _ _ _ _ _ _ _ _ _ _ _ _ => ⟨trivial, trivial, trivial⟩

/-- THE FRAME: the kernel runs, its arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => args_kept m (fun _ => noTrack) r h.1 c, h.2⟩)
    (run_track m ρ (fun _ => noTrack) (noTrack_sound m))

end Cert.PowerGram.Gen

end
-- ==== Proof.PowerGramIdeal.Cases.lean ====
/-
  Which of the body's five conditionals run at which grid point. With `s` the step within a batch element (26 steps):
  the first runs at even `s < 16`, the second at odd `s < 16`, the third at the off-diagonal superblocks, the fourth at
  the diagonal ones, the fifth at every `s ≥ 16`.
-/
module

public import proofs.«01_k».proof.Proof.Gen.PowerGramIdeal
public import proofs.«01_k».proof.Proof.Gen.PowerGramIdeal.Skeleton
public import proofs.«01_k».proof.Proof.Gen.PowerGramIdeal.Launch
public import proofs.«01_k».proof.Proof.Gen.PowerGramIdeal.Points
public import proofs.«01_k».proof.Proof.Gen.PowerGramIdeal.Frame

@[expose] public section

set_option maxRecDepth 16384

namespace Cert.PowerGramIdeal.Gen

open Idealize.ShloMosaic Idealize.ShloMosaic.TcCoe

/-- The first conditional's condition, as the body computes it from the step. -/
abbrev cond1 (i : grid0.Coords) : Prop :=
  Scalar.cmpi .ne (Scalar.extui (Scalar.andi (Scalar.cmpi .slt (BitVec.ofNat 32 (i 1).val) 16#32)
    (Scalar.xori (Scalar.cmpi .eq (Scalar.andi (BitVec.ofNat 32 (i 1).val) 1#32) 1#32) 1#1)) : BitVec 32) 0#32 = 1#1

/-- The steps of the diagonal superblocks. -/
abbrev isDiag (s : ℕ) : Prop := s = 16 ∨ s = 18 ∨ s = 21 ∨ s = 25

theorem cond1_iff : ∀ t : Fin cfg0.N, cond1 (grid0.coords t) ↔ t.val % 26 < 16 ∧ t.val % 2 = 0 := by decide +kernel
theorem cond2_iff : ∀ t : Fin cfg0.N, k0_cond2 (grid0.coords t) = 1#1 ↔ t.val % 26 < 16 ∧ t.val % 2 = 1 := by decide +kernel
theorem cond3_iff : ∀ t : Fin cfg0.N, k0_cond3 (grid0.coords t) = 1#1 ↔ 16 ≤ t.val % 26 ∧ ¬ isDiag (t.val % 26) := by decide +kernel
theorem cond4_iff : ∀ t : Fin cfg0.N, k0_cond4 (grid0.coords t) = 1#1 ↔ isDiag (t.val % 26) := by decide +kernel
theorem cond5_iff : ∀ t : Fin cfg0.N, k0_cond5 (grid0.coords t) = 1#1 ↔ 16 ≤ t.val % 26 := by decide +kernel

end Cert.PowerGramIdeal.Gen

end
-- ==== Proof.PowerGramIdeal.RunA.lean ====
/-
  The body at an even step below 16: the row block of `s` is split into its three parts and the two smaller parts are multiplied with `q`.
-/
module

public import proofs.«01_k».proof.Proof.PowerGramIdeal.Cases

@[expose] public section

set_option maxRecDepth 16384

noncomputable section

namespace Cert.PowerGramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ (UR sig nD τ) ℕ

set_option maxHeartbeats 1000000 in
/-- The run: the read buffers as they were, each written buffer at its old contents with the run's pieces written over them. -/
noncomputable def runA (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : cond1 i) (h2 : ¬ k0_cond2 i = 1#1) (h3 : ¬ k0_cond3 i = 1#1) (h4 : ¬ k0_cond4 i = 1#1) (h5 : ¬ k0_cond5 i = 1#1)
    (x2 : Vec F S1x256x2048 .f32) (x3 : Vec F S1x2048x2048 .bf16) (x6 : Vec F S256x6144 .bf16) (x8 : Vec F S256x2048 .f32) :
    Σ' (L6 : (List (View.Piece (Elt F) S256x6144 .bf16))), { L8 : (List (View.Piece (Elt F) S256x2048 .f32)) //
      ∀ (E : Set ℕ) (K : PUnit → sProp 𝕄),
        iprop(owns (c : Thread nD τ) arg2 fullShare x2 ∗ owns (c : Thread nD τ) arg3 fullShare x3 ∗ owns (c : Thread nD τ) arg6 fullShare x6 ∗ owns (c : Thread nD τ) arg8 fullShare x8
            ∗ (iprop(owns (c : Thread nD τ) arg2 fullShare x2 ∗ owns (c : Thread nD τ) arg3 fullShare x3 ∗ owns (c : Thread nD τ) arg6 fullShare (arg6.view.read (Elt F) (arg6.view.writes (Elt F) (harg6.unread x6) L6)) ∗ owns (c : Thread nD τ) arg8 fullShare (arg8.view.read (Elt F) (arg8.view.writes (Elt F) (harg8.unread x8) L8))) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f2, %hf2, H2⟩, ⟨%f3, %hf3, H3⟩, ⟨%f6, %hf6, H6⟩, ⟨%f8, %hf8, H8⟩, Hk⟩
    obtain rfl := harg2.eq_unread hf2; obtain rfl := harg3.eq_unread hf3; obtain rfl := harg6.eq_unread hf6; obtain rfl := harg8.eq_unread hf8
    sl_exec (disch := first | sl_exact h1 | sl_exact h2 | sl_exact h3 | sl_exact h4 | sl_exact h5)
    sl_step
    iapply Hk
    isplitl [H2]
    · iexists _; isplitr
      swap; · iexact H2
      ipureintro; exact harg2.read_unread _
    isplitl [H3]
    · iexists _; isplitr
      swap; · iexact H3
      ipureintro; exact harg3.read_unread _
    isplitl [H6]
    · iexists _; isplitr
      swap; · iexact H6
      ipureintro; rfl
    iexists _; isplitr
    swap; · iexact H8
    ipureintro; rfl

end Cert.PowerGramIdeal.Gen

end
-- ==== Proof.PowerGramIdeal.RunB.lean ====
/-
  The body at an odd step below 16: the block of the product is finished, handed out transposed, and kept split in three.
-/
module

public import proofs.«01_k».proof.Proof.PowerGramIdeal.RunA

@[expose] public section

set_option maxRecDepth 16384

noncomputable section

namespace Cert.PowerGramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ (UR sig nD τ) ℕ

set_option maxHeartbeats 1000000 in
/-- The run: the read buffers as they were, each written buffer at its old contents with the run's pieces written over them. -/
noncomputable def runB (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : ¬ cond1 i) (h2 : k0_cond2 i = 1#1) (h3 : ¬ k0_cond3 i = 1#1) (h4 : ¬ k0_cond4 i = 1#1) (h5 : ¬ k0_cond5 i = 1#1)
    (x3 : Vec F S1x2048x2048 .bf16) (x4 : Vec F S1x2048x256 .f32) (x6 : Vec F S256x6144 .bf16) (x7 : Vec F S3x2048x2048 .bf16) (x8 : Vec F S256x2048 .f32) :
    Σ' (L4 : (List (View.Piece (Elt F) S1x2048x256 .f32))), { L7 : (List (View.Piece (Elt F) S3x2048x2048 .bf16)) //
      ∀ (E : Set ℕ) (K : PUnit → sProp 𝕄),
        iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8
            ∗ (iprop(owns (c : Thread nD τ) arg3 fullShare x3 ∗ owns (c : Thread nD τ) arg4 fullShare (arg4.view.read (Elt F) (arg4.view.writes (Elt F) (harg4.unread x4) L4)) ∗ owns (c : Thread nD τ) arg6 fullShare x6 ∗ owns (c : Thread nD τ) arg7 fullShare (arg7.view.read (Elt F) (arg7.view.writes (Elt F) (harg7.unread x7) L7)) ∗ owns (c : Thread nD τ) arg8 fullShare x8) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f3, %hf3, H3⟩, ⟨%f4, %hf4, H4⟩, ⟨%f6, %hf6, H6⟩, ⟨%f7, %hf7, H7⟩, ⟨%f8, %hf8, H8⟩, Hk⟩
    obtain rfl := harg3.eq_unread hf3; obtain rfl := harg4.eq_unread hf4; obtain rfl := harg6.eq_unread hf6; obtain rfl := harg7.eq_unread hf7; obtain rfl := harg8.eq_unread hf8
    sl_exec (disch := first | sl_exact h1 | sl_exact h2 | sl_exact h3 | sl_exact h4 | sl_exact h5)
    sl_step
    iapply Hk
    isplitl [H3]
    · iexists _; isplitr
      swap; · iexact H3
      ipureintro; exact harg3.read_unread _
    isplitl [H4]
    · iexists _; isplitr
      swap; · iexact H4
      ipureintro; rfl
    isplitl [H6]
    · iexists _; isplitr
      swap; · iexact H6
      ipureintro; exact harg6.read_unread _
    isplitl [H7]
    · iexists _; isplitr
      swap; · iexact H7
      ipureintro; rfl
    iexists _; isplitr
    swap; · iexact H8
    ipureintro; exact harg8.read_unread _

end Cert.PowerGramIdeal.Gen

end
-- ==== Proof.PowerGramIdeal.RunC.lean ====
/-
  The body at an off-diagonal superblock of the Gram matrix.
-/
module

public import proofs.«01_k».proof.Proof.PowerGramIdeal.RunB

@[expose] public section

set_option maxRecDepth 16384

noncomputable section

namespace Cert.PowerGramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ (UR sig nD τ) ℕ

set_option maxHeartbeats 1000000 in
/-- The run: the read buffers as they were, each written buffer at its old contents with the run's pieces written over them. -/
noncomputable def runC (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : ¬ cond1 i) (h2 : ¬ k0_cond2 i = 1#1) (h3 : k0_cond3 i = 1#1) (h4 : ¬ k0_cond4 i = 1#1) (h5 : k0_cond5 i = 1#1)
    (x5 : Vec F S1x512x512 .f32) (x7 : Vec F S3x2048x2048 .bf16) (x8 : Vec F S256x2048 .f32) :
    Σ' (L5 : (List (View.Piece (Elt F) S1x512x512 .f32))), { L8 : (List (View.Piece (Elt F) S256x2048 .f32)) //
      ∀ (E : Set ℕ) (K : PUnit → sProp 𝕄),
        iprop(owns (c : Thread nD τ) arg5 fullShare x5 ∗ owns (c : Thread nD τ) arg7 fullShare x7 ∗ owns (c : Thread nD τ) arg8 fullShare x8
            ∗ (iprop(owns (c : Thread nD τ) arg5 fullShare (arg5.view.read (Elt F) (arg5.view.writes (Elt F) (harg5.unread x5) L5)) ∗ owns (c : Thread nD τ) arg7 fullShare x7 ∗ owns (c : Thread nD τ) arg8 fullShare (arg8.view.read (Elt F) (arg8.view.writes (Elt F) (harg8.unread x8) L8))) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f5, %hf5, H5⟩, ⟨%f7, %hf7, H7⟩, ⟨%f8, %hf8, H8⟩, Hk⟩
    obtain rfl := harg5.eq_unread hf5; obtain rfl := harg7.eq_unread hf7; obtain rfl := harg8.eq_unread hf8
    sl_exec (disch := first | sl_exact h1 | sl_exact h2 | sl_exact h3 | sl_exact h4 | sl_exact h5)
    sl_step
    iapply Hk
    isplitl [H5]
    · iexists _; isplitr
      swap; · iexact H5
      ipureintro; rfl
    isplitl [H7]
    · iexists _; isplitr
      swap; · iexact H7
      ipureintro; exact harg7.read_unread _
    iexists _; isplitr
    swap; · iexact H8
    ipureintro; rfl

end Cert.PowerGramIdeal.Gen

end
-- ==== Proof.PowerGramIdeal.RunD.lean ====
/-
  The body at a diagonal superblock of the Gram matrix.
-/
module

public import proofs.«01_k».proof.Proof.PowerGramIdeal.RunC

@[expose] public section

set_option maxRecDepth 16384

noncomputable section

namespace Cert.PowerGramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ (UR sig nD τ) ℕ

set_option maxHeartbeats 1000000 in
/-- The run: the read buffers as they were, each written buffer at its old contents with the run's pieces written over them. -/
noncomputable def runD (c : Dev nD) (i : grid0.Coords) (arg2 : Memref sig .tc .vmem S1x256x2048 .f32) (harg2 : arg2.IsWhole) (arg3 : Memref sig .tc .vmem S1x2048x2048 .bf16) (harg3 : arg3.IsWhole) (arg4 : Memref sig .tc .vmem S1x2048x256 .f32) (harg4 : arg4.IsWhole) (arg5 : Memref sig .tc .vmem S1x512x512 .f32) (harg5 : arg5.IsWhole) (arg6 : Memref sig .tc .vmem S256x6144 .bf16) (harg6 : arg6.IsWhole) (arg7 : Memref sig .tc .vmem S3x2048x2048 .bf16) (harg7 : arg7.IsWhole) (arg8 : Memref sig .tc .vmem S256x2048 .f32) (harg8 : arg8.IsWhole)
    (h1 : ¬ cond1 i) (h2 : ¬ k0_cond2 i = 1#1) (h3 : ¬ k0_cond3 i = 1#1) (h4 : k0_cond4 i = 1#1) (h5 : k0_cond5 i = 1#1)
    (x5 : Vec F S1x512x512 .f32) (x7 : Vec F S3x2048x2048 .bf16) (x8 : Vec F S256x2048 .f32) :
    Σ' (L5 : (List (View.Piece (Elt F) S1x512x512 .f32))), { L8 : (List (View.Piece (Elt F) S256x2048 .f32)) //
      ∀ (E : Set ℕ) (K : PUnit → sProp 𝕄),
        iprop(owns (c : Thread nD τ) arg5 fullShare x5 ∗ owns (c : Thread nD τ) arg7 fullShare x7 ∗ owns (c : Thread nD τ) arg8 fullShare x8
            ∗ (iprop(owns (c : Thread nD τ) arg5 fullShare (arg5.view.read (Elt F) (arg5.view.writes (Elt F) (harg5.unread x5) L5)) ∗ owns (c : Thread nD τ) arg7 fullShare x7 ∗ owns (c : Thread nD τ) arg8 fullShare (arg8.view.read (Elt F) (arg8.view.writes (Elt F) (harg8.unread x8) L8))) -∗ K ⟨⟩))
          ⊢ wp frame (wpE (defs₀ (F := F)) Variants.none c none) E (cc0_power_gram i arg2 harg2 arg3 harg3 arg4 harg4 arg5 harg5 arg6 harg6 arg7 harg7 arg8 harg8) K } := by
  refine ⟨?_, ?_, fun E K => ?run⟩
  case run =>
    rw [cc0_power_gram_eq_skeleton]; unfold cc0_power_gram_skel
    unfold owns
    iintro ⟨⟨%f5, %hf5, H5⟩, ⟨%f7, %hf7, H7⟩, ⟨%f8, %hf8, H8⟩, Hk⟩
    obtain rfl := harg5.eq_unread hf5; obtain rfl := harg7.eq_unread hf7; obtain rfl := harg8.eq_unread hf8
    sl_exec (disch := first | sl_exact h1 | sl_exact h2 | sl_exact h3 | sl_exact h4 | sl_exact h5)
    sl_step
    iapply Hk
    isplitl [H5]
    · iexists _; isplitr
      swap; · iexact H5
      ipureintro; rfl
    isplitl [H7]
    · iexists _; isplitr
      swap; · iexact H7
      ipureintro; exact harg7.read_unread _
    iexists _; isplitr
    swap; · iexact H8
    ipureintro; rfl

end Cert.PowerGramIdeal.Gen

end
-- ==== Proof.PowerGramIdeal.Body.lean ====
/-
  The kernel's proof data, stated relationally, over any invariant of the three scratch buffers. `Track` names what is said
  of the scratch before each point and of the two output blocks after it; `Track.Sound` is what each of the four kinds of
  point has to establish; from it follow the body obligation and the launch.
-/
module

public import proofs.«01_k».proof.Proof.PowerGramIdeal.RunD

@[expose] public section

set_option maxRecDepth 16384

noncomputable section

namespace Cert.PowerGramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the scratch -/

abbrev ms0 (t : Fin cfg0.N) : Memref sig .tc .vmem S1x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x512 .f32 := win0_3.stage (cfg0.slots t 3)
abbrev hs3 (t : Fin cfg0.N) : (ms3 t).IsWhole := hstage0_3 ((cfg0.slots t 3).cast nbuf0_3)
abbrev sc0 : Memref sig .tc .vmem S256x6144 .bf16 := Memref.whole cc0_scratch0
abbrev sc1 : Memref sig .tc .vmem S3x2048x2048 .bf16 := Memref.whole cc0_scratch1
abbrev sc2 : Memref sig .tc .vmem S256x2048 .f32 := Memref.whole cc0_scratch2
abbrev hsc0 : (sc0).IsWhole := Memref.isWhole_whole _
abbrev hsc1 : (sc1).IsWhole := Memref.isWhole_whole _
abbrev hsc2 : (sc2).IsWhole := Memref.isWhole_whole _

/-! ## What is tracked -/

/-- What is said of the scratch before point `n` (`I`), and of each output block's buffer at point `t`, found at `Y` and
    left at `X`. -/
structure Track (F : FTy → Type) where
  I : ℕ → Vec F S256x6144 .bf16 → Vec F S3x2048x2048 .bf16 → Vec F S256x2048 .f32 → Prop
  A2 : Fin cfg0.N → Vec F S1x2048x256 .f32 → Vec F S1x2048x256 .f32 → Prop
  A3 : Fin cfg0.N → Vec F S1x512x512 .f32 → Vec F S1x512x512 .f32 → Prop

/-- What the run leaves at an even step below 16: the split row block and the partial product. -/
def ssA (c : Dev nD) (t : Fin cfg0.N) (h1 : cond1 (grid0.coords t)) (h2 : ¬ k0_cond2 (grid0.coords t) = 1#1) (h3 : ¬ k0_cond3 (grid0.coords t) = 1#1) (h4 : ¬ k0_cond4 (grid0.coords t) = 1#1) (h5 : ¬ k0_cond5 (grid0.coords t) = 1#1) (x2 : Vec F S1x256x2048 .f32) (x3 : Vec F S1x2048x2048 .bf16) (a : Vec F S256x6144 .bf16) (d : Vec F S256x2048 .f32) : Vec F S256x6144 .bf16 :=
  sc0.view.read (Elt F) (sc0.view.writes (Elt F) (hsc0.unread a) (runA c (grid0.coords t) (ms0 t) (hs0 t) (ms1 t) (hs1 t) (ms2 t) (hs2 t) (ms3 t) (hs3 t) sc0 hsc0 sc1 hsc1 sc2 hsc2 h1 h2 h3 h4 h5 x2 x3 a d).1)
def tmpA (c : Dev nD) (t : Fin cfg0.N) (h1 : cond1 (grid0.coords t)) (h2 : ¬ k0_cond2 (grid0.coords t) = 1#1) (h3 : ¬ k0_cond3 (grid0.coords t) = 1#1) (h4 : ¬ k0_cond4 (grid0.coords t) = 1#1) (h5 : ¬ k0_cond5 (grid0.coords t) = 1#1) (x2 : Vec F S1x256x2048 .f32) (x3 : Vec F S1x2048x2048 .bf16) (a : Vec F S256x6144 .bf16) (d : Vec F S256x2048 .f32) : Vec F S256x2048 .f32 :=
  sc2.view.read (Elt F) (sc2.view.writes (Elt F) (hsc2.unread d) (runA c (grid0.coords t) (ms0 t) (hs0 t) (ms1 t) (hs1 t) (ms2 t) (hs2 t) (ms3 t) (hs3 t) sc0 hsc0 sc1 hsc1 sc2 hsc2 h1 h2 h3 h4 h5 x2 x3 a d).2.1)
/-- What the run leaves at an odd step below 16: the block of the product, and the kept parts. -/
def xB (c : Dev nD) (t : Fin cfg0.N) (h1 : ¬ cond1 (grid0.coords t)) (h2 : k0_cond2 (grid0.coords t) = 1#1) (h3 : ¬ k0_cond3 (grid0.coords t) = 1#1) (h4 : ¬ k0_cond4 (grid0.coords t) = 1#1) (h5 : ¬ k0_cond5 (grid0.coords t) = 1#1) (x3 : Vec F S1x2048x2048 .bf16) (y : Vec F S1x2048x256 .f32) (a : Vec F S256x6144 .bf16) (b : Vec F S3x2048x2048 .bf16) (d : Vec F S256x2048 .f32) : Vec F S1x2048x256 .f32 :=
  (ms2 t).view.read (Elt F) ((ms2 t).view.writes (Elt F) ((hs2 t).unread y) (runB c (grid0.coords t) (ms0 t) (hs0 t) (ms1 t) (hs1 t) (ms2 t) (hs2 t) (ms3 t) (hs3 t) sc0 hsc0 sc1 hsc1 sc2 hsc2 h1 h2 h3 h4 h5 x3 y a b d).1)
def xsB (c : Dev nD) (t : Fin cfg0.N) (h1 : ¬ cond1 (grid0.coords t)) (h2 : k0_cond2 (grid0.coords t) = 1#1) (h3 : ¬ k0_cond3 (grid0.coords t) = 1#1) (h4 : ¬ k0_cond4 (grid0.coords t) = 1#1) (h5 : ¬ k0_cond5 (grid0.coords t) = 1#1) (x3 : Vec F S1x2048x2048 .bf16) (y : Vec F S1x2048x256 .f32) (a : Vec F S256x6144 .bf16) (b : Vec F S3x2048x2048 .bf16) (d : Vec F S256x2048 .f32) : Vec F S3x2048x2048 .bf16 :=
  sc1.view.read (Elt F) (sc1.view.writes (Elt F) (hsc1.unread b) (runB c (grid0.coords t) (ms0 t) (hs0 t) (ms1 t) (hs1 t) (ms2 t) (hs2 t) (ms3 t) (hs3 t) sc0 hsc0 sc1 hsc1 sc2 hsc2 h1 h2 h3 h4 h5 x3 y a b d).2.1)
/-- What the run leaves at an off-diagonal superblock: its block of the Gram matrix, and the temporary sums. -/
def gC (c : Dev nD) (t : Fin cfg0.N) (h1 : ¬ cond1 (grid0.coords t)) (h2 : ¬ k0_cond2 (grid0.coords t) = 1#1) (h3 : k0_cond3 (grid0.coords t) = 1#1) (h4 : ¬ k0_cond4 (grid0.coords t) = 1#1) (h5 : k0_cond5 (grid0.coords t) = 1#1) (y : Vec F S1x512x512 .f32) (b : Vec F S3x2048x2048 .bf16) (d : Vec F S256x2048 .f32) : Vec F S1x512x512 .f32 :=
  (ms3 t).view.read (Elt F) ((ms3 t).view.writes (Elt F) ((hs3 t).unread y) (runC c (grid0.coords t) (ms0 t) (hs0 t) (ms1 t) (hs1 t) (ms2 t) (hs2 t) (ms3 t) (hs3 t) sc0 hsc0 sc1 hsc1 sc2 hsc2 h1 h2 h3 h4 h5 y b d).1)
def tmpC (c : Dev nD) (t : Fin cfg0.N) (h1 : ¬ cond1 (grid0.coords t)) (h2 : ¬ k0_cond2 (grid0.coords t) = 1#1) (h3 : k0_cond3 (grid0.coords t) = 1#1) (h4 : ¬ k0_cond4 (grid0.coords t) = 1#1) (h5 : k0_cond5 (grid0.coords t) = 1#1) (y : Vec F S1x512x512 .f32) (b : Vec F S3x2048x2048 .bf16) (d : Vec F S256x2048 .f32) : Vec F S256x2048 .f32 :=
  sc2.view.read (Elt F) (sc2.view.writes (Elt F) (hsc2.unread d) (runC c (grid0.coords t) (ms0 t) (hs0 t) (ms1 t) (hs1 t) (ms2 t) (hs2 t) (ms3 t) (hs3 t) sc0 hsc0 sc1 hsc1 sc2 hsc2 h1 h2 h3 h4 h5 y b d).2.1)
/-- What the run leaves at a diagonal superblock. -/
def gD (c : Dev nD) (t : Fin cfg0.N) (h1 : ¬ cond1 (grid0.coords t)) (h2 : ¬ k0_cond2 (grid0.coords t) = 1#1) (h3 : ¬ k0_cond3 (grid0.coords t) = 1#1) (h4 : k0_cond4 (grid0.coords t) = 1#1) (h5 : k0_cond5 (grid0.coords t) = 1#1) (y : Vec F S1x512x512 .f32) (b : Vec F S3x2048x2048 .bf16) (d : Vec F S256x2048 .f32) : Vec F S1x512x512 .f32 :=
  (ms3 t).view.read (Elt F) ((ms3 t).view.writes (Elt F) ((hs3 t).unread y) (runD c (grid0.coords t) (ms0 t) (hs0 t) (ms1 t) (hs1 t) (ms2 t) (hs2 t) (ms3 t) (hs3 t) sc0 hsc0 sc1 hsc1 sc2 hsc2 h1 h2 h3 h4 h5 y b d).1)
def tmpD (c : Dev nD) (t : Fin cfg0.N) (h1 : ¬ cond1 (grid0.coords t)) (h2 : ¬ k0_cond2 (grid0.coords t) = 1#1) (h3 : ¬ k0_cond3 (grid0.coords t) = 1#1) (h4 : k0_cond4 (grid0.coords t) = 1#1) (h5 : k0_cond5 (grid0.coords t) = 1#1) (y : Vec F S1x512x512 .f32) (b : Vec F S3x2048x2048 .bf16) (d : Vec F S256x2048 .f32) : Vec F S256x2048 .f32 :=
  sc2.view.read (Elt F) (sc2.view.writes (Elt F) (hsc2.unread d) (runD c (grid0.coords t) (ms0 t) (hs0 t) (ms1 t) (hs1 t) (ms2 t) (hs2 t) (ms3 t) (hs3 t) sc0 hsc0 sc1 hsc1 sc2 hsc2 h1 h2 h3 h4 h5 y b d).2.1)

/-- What a `Track` has to satisfy: nothing is asked before the first point, and each kind of point goes on to the next. -/
structure Track.Sound (T : Track F) (c : Dev nD) : Prop where
  zero : ∀ a b d, T.I 0 a b d
  A : ∀ (t : Fin cfg0.N) h1 h2 h3 h4 h5 y2 y3 a b d, T.I t.val a b d →
    T.I (t.val + 1) (ssA c t h1 h2 h3 h4 h5 (iblk m c 0 t) (iblk m c 1 t) a d) b (tmpA c t h1 h2 h3 h4 h5 (iblk m c 0 t) (iblk m c 1 t) a d)
      ∧ T.A2 t y2 y2 ∧ T.A3 t y3 y3
  B : ∀ (t : Fin cfg0.N) h1 h2 h3 h4 h5 y2 y3 a b d, T.I t.val a b d →
    T.I (t.val + 1) a (xsB c t h1 h2 h3 h4 h5 (iblk m c 1 t) y2 a b d) d
      ∧ T.A2 t y2 (xB c t h1 h2 h3 h4 h5 (iblk m c 1 t) y2 a b d) ∧ T.A3 t y3 y3
  C : ∀ (t : Fin cfg0.N) h1 h2 h3 h4 h5 y2 y3 a b d, T.I t.val a b d →
    T.I (t.val + 1) a b (tmpC c t h1 h2 h3 h4 h5 y3 b d) ∧ T.A2 t y2 y2 ∧ T.A3 t y3 (gC c t h1 h2 h3 h4 h5 y3 b d)
  D : ∀ (t : Fin cfg0.N) h1 h2 h3 h4 h5 y2 y3 a b d, T.I t.val a b d →
    T.I (t.val + 1) a b (tmpD c t h1 h2 h3 h4 h5 y3 b d) ∧ T.A2 t y2 y2 ∧ T.A3 t y3 (gD c t h1 h2 h3 h4 h5 y3 b d)

/-! ## The proof data -/

/-- The scratch at contents of which `I` holds, and the generator register at some state. -/
def scrΦ (T : Track F) (c : Dev nD) (n : ℕ) : sProp 𝕄 :=
  iprop((∃ a, ∃ b, ∃ d, ⌜T.I n a b d⌝ ∗ owns (c : Thread nD τ) sc0 fullShare a ∗ owns (c : Thread nD τ) sc1 fullShare b ∗ owns (c : Thread nD τ) sc2 fullShare d) ∗ (∃ r, prngReg c r))

/-- What the body may leave in each window's buffer: an input as found, an output as `T` says. -/
def aft (T : Track F) : (w : Fin cfg0.W) → Fin cfg0.N → (Y X : (cfg0.win w).block.Idx → Elt F (cfg0.win w).elt) → Prop
  | 0 => fun _ Y X => X = Y
  | 1 => fun _ Y X => X = Y
  | 2 => T.A2
  | 3 => T.A3
  | ⟨_ + 4, h⟩ => absurd h (Nat.not_lt.2 (Nat.le_add_left _ _))

def rdat (T : Track F) (c : Dev nD) : RDat τ (Elt F) Unit ℕ (UR sig nD τ) ℕ cfg0 c where
  A := fun w => V m c (Pipeline.arrRef spec0 w)
  after := aft T
  Φ := fun n => scrΦ T c n.val
  q := fun _ => fullShare
  owed := fun _ => 0

theorem finds0 (T : Track F) (c : Dev nD) (t : Fin cfg0.N) (Y) (h : (rdat m T c).Finds 0 t Y) : Y = iblk m c 0 t := by
  obtain ⟨d, rfl⟩ := Pipeline.RDat.finds_in_eq_fetched (rdat m T c) 0 rfl (fun _ _ _ => rfl) (fun _ _ _ e => e) t Y h
  unfold RDat.fetched RDat.blockOf iblk; rfl

theorem finds1 (T : Track F) (c : Dev nD) (t : Fin cfg0.N) (Y) (h : (rdat m T c).Finds 1 t Y) : Y = iblk m c 1 t := by
  obtain ⟨d, rfl⟩ := Pipeline.RDat.finds_in_eq_fetched (rdat m T c) 1 rfl (fun _ _ _ => rfl) (fun _ _ _ e => e) t Y h
  unfold RDat.fetched RDat.blockOf iblk; rfl

/-! ## The body -/

/-- What the body is called with at point `t`, the output buffers at `y2` and `y3`. -/
def bodyPre (T : Track F) (c : Dev nD) (t : Fin cfg0.N) (y2 : Vec F S1x2048x256 .f32) (y3 : Vec F S1x512x512 .f32) : sProp 𝕄 :=
  iprop(scrΦ T c t.val ∗ (rdat m T c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare y2
    ∗ owns (c : Thread nD τ) (ms3 t) fullShare y3)

/-- What it returns. -/
def bodyPost (T : Track F) (c : Dev nD) (t : Fin cfg0.N) (y2 : Vec F S1x2048x256 .f32) (y3 : Vec F S1x512x512 .f32) : sProp 𝕄 :=
  iprop(scrΦ T c (t.val + 1) ∗ (rdat m T c).owesAt () t.castSucc
    ∗ owns (c : Thread nD τ) (ms0 t) fullShare (iblk m c 0 t)
    ∗ owns (c : Thread nD τ) (ms1 t) fullShare (iblk m c 1 t)
    ∗ (∃ X, ⌜T.A2 t y2 X⌝ ∗ owns (c : Thread nD τ) (ms2 t) fullShare X)
    ∗ (∃ X, ⌜T.A3 t y3 X⌝ ∗ owns (c : Thread nD τ) (ms3 t) fullShare X))

set_option maxHeartbeats 3200000 in
/-- The body at any point. -/
theorem sound_body (T : Track F) (c : Dev nD) (hT : T.Sound m c) (t : Fin cfg0.N) (y2 : Vec F S1x2048x256 .f32) (y3 : Vec F S1x512x512 .f32) :
    bodyPre m T c t y2 y3 ⊢ wp frame (wpE (defs₀ (F := F)) Variants.none c none) Set.univ (bodyAt0 t) (fun _ => bodyPost m T c t y2 y3) := by
  unfold bodyPre bodyPost bodyAt0 scrΦ
  iintro ⟨⟨⟨%a, %b, %d, %hI, S0, S1, S2⟩, Hg⟩, Ho, H0, H1, H2, H3⟩
  by_cases hs : t.val % 26 < 16
  · have h3 : ¬ k0_cond3 (grid0.coords t) = 1#1 := fun h => by have := (cond3_iff t).mp h; omega
    have h4 : ¬ k0_cond4 (grid0.coords t) = 1#1 := fun h => by have := (cond4_iff t).mp h; omega
    have h5 : ¬ k0_cond5 (grid0.coords t) = 1#1 := fun h => by have := (cond5_iff t).mp h; omega
    by_cases he : t.val % 2 = 0
    · have h1 : cond1 (grid0.coords t) := (cond1_iff t).mpr ⟨hs, he⟩
      have h2 : ¬ k0_cond2 (grid0.coords t) = 1#1 := fun h => by have := (cond2_iff t).mp h; omega
      iapply ((runA c (grid0.coords t) (ms0 t) (hs0 t) (ms1 t) (hs1 t) (ms2 t) (hs2 t) (ms3 t) (hs3 t) sc0 hsc0 sc1 hsc1 sc2 hsc2 h1 h2 h3 h4 h5 (iblk m c 0 t) (iblk m c 1 t) a d).2.2 Set.univ _)
      isplitl [H0]; · iexact H0
      isplitl [H1]; · iexact H1
      isplitl [S0]; · iexact S0
      isplitl [S2]; · iexact S2
      iintro ⟨H0, H1, S0, S2⟩
      have hX := hT.A t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2
    · have h1 : ¬ cond1 (grid0.coords t) := fun h => by have := (cond1_iff t).mp h; omega
      have h2 : k0_cond2 (grid0.coords t) = 1#1 := (cond2_iff t).mpr ⟨hs, by omega⟩
      iapply ((runB c (grid0.coords t) (ms0 t) (hs0 t) (ms1 t) (hs1 t) (ms2 t) (hs2 t) (ms3 t) (hs3 t) sc0 hsc0 sc1 hsc1 sc2 hsc2 h1 h2 h3 h4 h5 (iblk m c 1 t) y2 a b d).2.2 Set.univ _)
      isplitl [H1]; · iexact H1
      isplitl [H2]; · iexact H2
      isplitl [S0]; · iexact S0
      isplitl [S1]; · iexact S1
      isplitl [S2]; · iexact S2
      iintro ⟨H1, H2, S0, S1, S2⟩
      have hX := hT.B t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2
  · have h1 : ¬ cond1 (grid0.coords t) := fun h => by have := (cond1_iff t).mp h; omega
    have h2 : ¬ k0_cond2 (grid0.coords t) = 1#1 := fun h => by have := (cond2_iff t).mp h; omega
    have h5 : k0_cond5 (grid0.coords t) = 1#1 := (cond5_iff t).mpr (by omega)
    by_cases hd : isDiag (t.val % 26)
    · have h3 : ¬ k0_cond3 (grid0.coords t) = 1#1 := fun h => ((cond3_iff t).mp h).2 hd
      have h4 : k0_cond4 (grid0.coords t) = 1#1 := (cond4_iff t).mpr hd
      iapply ((runD c (grid0.coords t) (ms0 t) (hs0 t) (ms1 t) (hs1 t) (ms2 t) (hs2 t) (ms3 t) (hs3 t) sc0 hsc0 sc1 hsc1 sc2 hsc2 h1 h2 h3 h4 h5 y3 b d).2.2 Set.univ _)
      isplitl [H3]; · iexact H3
      isplitl [S1]; · iexact S1
      isplitl [S2]; · iexact S2
      iintro ⟨H3, S1, S2⟩
      have hX := hT.D t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2
    · have h3 : k0_cond3 (grid0.coords t) = 1#1 := (cond3_iff t).mpr ⟨by omega, hd⟩
      have h4 : ¬ k0_cond4 (grid0.coords t) = 1#1 := fun h => hd ((cond4_iff t).mp h)
      iapply ((runC c (grid0.coords t) (ms0 t) (hs0 t) (ms1 t) (hs1 t) (ms2 t) (hs2 t) (ms3 t) (hs3 t) sc0 hsc0 sc1 hsc1 sc2 hsc2 h1 h2 h3 h4 h5 y3 b d).2.2 Set.univ _)
      isplitl [H3]; · iexact H3
      isplitl [S1]; · iexact S1
      isplitl [S2]; · iexact S2
      iintro ⟨H3, S1, S2⟩
      have hX := hT.C t h1 h2 h3 h4 h5 y2 y3 a b d hI
      isplitl [S0 S1 S2 Hg]
      · isplitl [S0 S1 S2]
        · iexists _, _, _
          isplitr
          · ipureintro; exact hX.1
          isplitl [S0]; · iexact S0
          isplitl [S1]; · iexact S1
          iexact S2
        iexact Hg
      isplitl [Ho]; · iexact Ho
      isplitl [H0]; · iexact H0
      isplitl [H1]; · iexact H1
      isplitl [H2]
      · iexists _; isplitr
        swap; · iexact H2
        ipureintro; exact hX.2.1
      iexists _; isplitr
      swap; · iexact H3
      ipureintro; exact hX.2.2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (T : Track F) (c : Dev nD) (hT : T.Sound m c) :
    (rdat m T c).BodyObligation (defs₀ (F := F)) Variants.none () Set.univ := fun t Y hY => by
  rw [bigSep_W0, bigSep_W0, defs₀_row, finds0 m T c t _ (hY 0), finds1 m T c t _ (hY 1)]
  refine triple_restated (sound_body m T c hT t (Y 2) (Y 3)) rfl .rfl fun _ => ?_
  unfold bodyPost
  rw [show (rdat m T c).Φ t.succ = scrΦ T c (t.val + 1) from rfl]
  iintro ⟨HΦ, Ho, H0, H1, H2, H3⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  isplitl [H2]; · iexact H2
  iexact H3

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem hin (T : Track F) (c : Dev nD) (hT : T.Sound m c) : Pipeline.ΦA spec0 c ⊢ (rdat m T c).Φ 0 := by
  rw [PhiA0_eq, show (rdat m T c).Φ 0 = scrΦ T c 0 from rfl]
  unfold scrΦ
  iintro ⟨⟨⟨%a, S0⟩, ⟨%b, S1⟩, ⟨%d, S2⟩⟩, Hg⟩
  isplitl [S0 S1 S2]
  · iexists _, _, _
    isplitr
    · ipureintro; exact hT.zero a b d
    isplitl [S0]; · iexact S0
    isplitl [S1]; · iexact S1
    iexact S2
  iexact Hg

theorem hout (T : Track F) (c : Dev nD) : (rdat m T c).Φ (Fin.last cfg0.N) ⊢ Pipeline.ΦA spec0 c := by
  rw [PhiA0_eq, show (rdat m T c).Φ (Fin.last cfg0.N) = scrΦ T c (Fin.last cfg0.N).val from rfl]
  unfold scrΦ
  iintro ⟨⟨%a, %b, %d, %hI, S0, S1, S2⟩, Hg⟩
  isplitl [S0 S1 S2]
  · isplitl [S0]; · iexists _; iexact S0
    isplitl [S1]; · iexists _; iexact S1
    iexists _; iexact S2
  iexact Hg

/-! ## The run -/

set_option backward.isDefEq.respectTransparency.types false in
/-- The launch: every array at what the tracked relations allow, and every semaphore at zero. -/
theorem run_track (T : Dev nD → Track F) (hT : ∀ c, (T c).Sound m c) :
    θ_run defs (onTc (τ := τ) (main (F := F))) (s₀ m ρ) (fun r => RDat.FramePost cfg0 (fun c => rdat m (T c) c) (V m) r ∧ r.2.sem = fun _ => 0) :=
  Pipeline.RDat.θ_run_frame_track (Q' := _) cfgs (0 : Fin 1) launch0 defs₀ Variants.none (fun c => rdat m (T c) c) m ρ main
    (hbody := fun c => body_obligation m (T c) c (hT c)) (hshare := fun c => (rdat m (T c) c).share_full fun _ => rfl)
    (howed := fun _ _ => rfl) (V := V m) (hmain := hmain m Variants.none) (hA := fun _ _ => rfl)
    (hin := fun c => hin m (T c) c (hT c)) (hout := fun c => hout m (T c) c)

/-- From such a run: the argument arrays end as they were. -/
theorem args_kept (T : Dev nD → Track F) (r : PUnit × MemSt nD τ sig (Elt F)) (h : RDat.FramePost cfg0 (fun c => rdat m (T c) c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨Pipeline.RDat.FramePost.arr_in h c 0 rfl, Pipeline.RDat.FramePost.arr_in h c 1 rfl⟩

/-- Nothing tracked. -/
def noTrack : Track F := ⟨fun _ _ _ _ => True, fun _ _ _ => True, fun _ _ _ => True⟩

theorem noTrack_sound (c : Dev nD) : (noTrack : Track F).Sound m c where
  zero := fun _ _ _ => trivial
  A := fun _ _ _ _ _ _ _ _ _ _ _ _ => ⟨trivial, trivial, trivial⟩
  B := fun _ _ _ _ _ _ _ _ _ _ _ _ => ⟨trivial, trivial, trivial⟩
  C := fun _ _ _ _ _ _ _ _ _ _ _ _ => ⟨trivial, trivial, trivial⟩
  D := fun _ _ _ _ _ _ _ _ _ _ _ _ => ⟨trivial, trivial, trivial⟩

/-- THE FRAME: the kernel runs, its arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => args_kept m (fun _ => noTrack) r h.1 c, h.2⟩)
    (run_track m ρ (fun _ => noTrack) (noTrack_sound m))

end Cert.PowerGramIdeal.Gen

end
-- ==== Proof.PowerGramIdeal.Spec.lean ====
/-
  What the two results of the power and Gram step are, as functions of the two argument arrays over the extended reals.
-/
module

public import Idealize.ShloMosaic.Lib.Pipeline.ValueKit
public import Idealize.ShloMosaic.PureOps.Ideal

@[expose] public section

noncomputable section

open Idealize.ShloMosaic

namespace Cert.PowerGramSpec

/-- The shape of both arguments and of both results. -/
abbrev SA : Shape := ⟨3, ![12, 2048, 2048]⟩

variable (a0 : FVec Ideal SA .f32) (a1 : FVec Ideal SA .bf16)

/-- The product of the two arguments, batch by batch: row `k`, column `j`. -/
def prod (b : Fin 12) (k j : Fin 2048) : EReal := ∑ i : Fin 2048, a0 (ix3 b k i) * a1 (ix3 b i j)

/-- The Gram matrix of the product's columns. -/
def gram (b : Fin 12) (i j : Fin 2048) : EReal := ∑ k : Fin 2048, prod a0 a1 b k i * prod a0 a1 b k j

/-- The order of the eight panels of 256 rows, reversed. -/
def panel (i : Fin 2048) : Fin 2048 := ⟨256 * (7 - i.val / 256) + i.val % 256, by omega⟩

/-- The first result: the product, each matrix transposed. -/
def RX : FVec Ideal SA .f32 := fun j => prod a0 a1 (j 0) (j 2) (j 1)

/-- The second result: the Gram matrix, its panels of rows in reverse order. -/
def RG : FVec Ideal SA .f32 := fun j => gram a0 a1 (j 0) (panel (j 1)) (j 2)

end Cert.PowerGramSpec

end
-- ==== Proof.PowerGramIdeal.Payload.lean ====
/-
  What the kernel's stored values are at an index, over the extended reals: the three-way split of a real number is the
  number and two zeros, so every product but the leading one vanishes.
-/
module

public import proofs.«01_k».proof.Proof.PowerGramIdeal.Body
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.PowerGramIdeal.Math

open Cert.PowerGramIdeal Cert.PowerGramIdeal.Gen

/-! ## Real numbers among the extended reals -/

/-- `x` is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type} (s : Finset ι) (f : ι → EReal) (h : ∀ i, IsReal (f i)) : IsReal (∑ i ∈ s, f i) :=
  Finset.sum_induction f IsReal (fun _ _ => IsReal.add) IsReal.zero fun i _ => h i

theorem IsReal.sub_self {x : EReal} (hx : IsReal x) : x - x = 0 := by
  obtain ⟨a, rfl⟩ := hx
  rw [← EReal.coe_sub, _root_.sub_self]; rfl

/-! ## Reading a rectangle of a buffer -/

/-- A load through a rectangle of a buffer holding `X` reads `X` at the offset index. -/
theorem rd_unread {sp : Space} {s : Shape} {e : EltTy} (M : Memref sig .tc sp s e) (h : M.IsWhole) (X : s.Idx → Elt Ideal e)
    {off off' size : Fin s.rank → ℕ} (inb : ∀ a, off a + size a ≤ s.size a) (x : (Rect.unit off size inb).toLoadRect.shape.Idx)
    (y : s.Idx) (heq : off = off') (hy : ∀ a, (y a).val = off' a + (x a).val) :
    View.readAt (Elt Ideal) M.view (Rect.unit off size inb).toLoadRect (h.unread X) x = X y := by
  subst heq
  rw [View.readAt_apply, h.read_unread]
  congr 1
  funext a
  refine Fin.ext ?_
  show off a + 1 * (x a).val = (y a).val
  rw [hy a, Nat.one_mul]

/-! ## The first factor's row block, split -/

theorem pay10_apply (x : Vec Ideal S1x256x2048 .f32) (r : Fin 256) (k : Fin 2048) : k0_pay10 x (ix2 r k) = x (ix3 0 r k) := by
  pointwise [k0_pay10]

theorem pay11_apply (x : Vec Ideal S1x256x2048 .f32) (r : Fin 256) (k : Fin 2048) (h : IsReal (x (ix3 0 r k))) : k0_pay11 x x (ix2 r k) = 0 :=
  (show k0_pay11 x x (ix2 r k) = x (ix3 0 r k) - k0_pay10 x (ix2 r k) by pointwise [k0_pay11]).trans (by rw [pay10_apply, h.sub_self])

theorem pay12_apply (x : Vec Ideal S1x256x2048 .f32) (r : Fin 256) (k : Fin 2048) (h : IsReal (x (ix3 0 r k))) : k0_pay12 x x (ix2 r k) = 0 :=
  (show k0_pay12 x x (ix2 r k) = k0_pay11 x x (ix2 r k) by pointwise [k0_pay12]).trans (pay11_apply x r k h)

theorem pay13_apply (x : Vec Ideal S1x256x2048 .f32) (r : Fin 256) (k : Fin 2048) (h : IsReal (x (ix3 0 r k))) : k0_pay13 x x (ix2 r k) = 0 :=
  (show k0_pay13 x x (ix2 r k) = k0_pay11 x x (ix2 r k) - k0_pay12 x x (ix2 r k) by pointwise [k0_pay13]).trans
    (by rw [pay11_apply x r k h, pay12_apply x r k h, IsReal.zero.sub_self])

theorem pay14_apply (x : Vec Ideal S1x256x2048 .f32) (r : Fin 256) (k : Fin 2048) (h : IsReal (x (ix3 0 r k))) : k0_pay14 x x (ix2 r k) = 0 :=
  (show k0_pay14 x x (ix2 r k) = k0_pay12 x x (ix2 r k) by pointwise [k0_pay14]).trans (pay12_apply x r k h)

theorem pay15_apply (x : Vec Ideal S1x256x2048 .f32) (r : Fin 256) (k : Fin 2048) : k0_pay15 x (ix2 r k) = x (ix3 0 r k) :=
  (show k0_pay15 x (ix2 r k) = k0_pay10 x (ix2 r k) by pointwise [k0_pay15]).trans (pay10_apply x r k)

/-! ## The correction product, a sum of zeros -/

theorem mm_apply (v : FVec Ideal S256x4096 .bf16) (w : FVec Ideal S4096x512 .bf16) (r : Fin 256) (c : Fin 512) :
    shapeCast S256x512 (matmul dot_S256x4096_S4096x512_S256x512_1_0_0_1_n_n none v w (constant S256x512 .f32 0x00000000#32)) shapeCasts_S256x512_S256x512 (ix2 r c)
      = ∑ k : Fin 4096, v (ix2 r k) * w (ix2 k c) := by
  pointwise

theorem pay16_apply (q : Vec Ideal S1x2048x512 .bf16) (v : Vec Ideal S256x4096 .bf16) (r : Fin 256) (c : Fin 512) (h : ∀ k, v (ix2 r k) = 0) :
    k0_pay16 q v (ix2 r c) = 0 := by
  unfold k0_pay16
  refine (mm_apply v _ r c).trans (Finset.sum_eq_zero fun k _ => ?_)
  rw [h k, zero_mul]

/-! ## A chunk of the product, and its split -/

theorem pay17_apply (d : Vec Ideal S256x512 .f32) (a : Vec Ideal S256x2048 .bf16) (q : Vec Ideal S1x2048x512 .bf16) (j : Fin 512) (r : Fin 256) :
    k0_pay17 d a q (ix2 j r) = d (ix2 r j) + ∑ k : Fin 2048, a (ix2 r k) * q (ix3 0 k j) := by
  pointwise [k0_pay17]

theorem pay18_apply (d : Vec Ideal S256x512 .f32) (a : Vec Ideal S256x2048 .bf16) (q : Vec Ideal S1x2048x512 .bf16) (j : Fin 512) (r : Fin 256) :
    k0_pay18 d a q (ix3 0 j r) = k0_pay17 d a q (ix2 j r) := by
  pointwise [k0_pay18]

theorem pay19_apply (d : Vec Ideal S256x512 .f32) (a : Vec Ideal S256x2048 .bf16) (q : Vec Ideal S1x2048x512 .bf16) (j : Fin 512) (r : Fin 256) :
    k0_pay19 d a q (ix2 j r) = k0_pay17 d a q (ix2 j r) := by
  pointwise [k0_pay19]

theorem pay20_apply (d : Vec Ideal S256x512 .f32) (a : Vec Ideal S256x2048 .bf16) (q : Vec Ideal S1x2048x512 .bf16) (j : Fin 512) (r : Fin 256)
    (h : IsReal (k0_pay17 d a q (ix2 j r))) : k0_pay20 d a q (ix2 j r) = 0 :=
  (show k0_pay20 d a q (ix2 j r) = k0_pay17 d a q (ix2 j r) - k0_pay19 d a q (ix2 j r) by pointwise [k0_pay20]).trans (by rw [pay19_apply, h.sub_self])

theorem pay21_apply (d : Vec Ideal S256x512 .f32) (a : Vec Ideal S256x2048 .bf16) (q : Vec Ideal S1x2048x512 .bf16) (j : Fin 512) (r : Fin 256)
    (h : IsReal (k0_pay17 d a q (ix2 j r))) : k0_pay21 d a q (ix2 j r) = 0 :=
  (show k0_pay21 d a q (ix2 j r) = k0_pay20 d a q (ix2 j r) by pointwise [k0_pay21]).trans (pay20_apply d a q j r h)

theorem pay22_apply (d : Vec Ideal S256x512 .f32) (a : Vec Ideal S256x2048 .bf16) (q : Vec Ideal S1x2048x512 .bf16) (j : Fin 512) (r : Fin 256) :
    k0_pay22 d a q (ix3 0 j r) = k0_pay17 d a q (ix2 j r) :=
  (show k0_pay22 d a q (ix3 0 j r) = k0_pay19 d a q (ix2 j r) by pointwise [k0_pay22]).trans (pay19_apply d a q j r)

theorem pay23_apply (d : Vec Ideal S256x512 .f32) (a : Vec Ideal S256x2048 .bf16) (q : Vec Ideal S1x2048x512 .bf16) (j : Fin 512) (r : Fin 256)
    (h : IsReal (k0_pay17 d a q (ix2 j r))) : k0_pay23 d a q (ix3 0 j r) = 0 :=
  (show k0_pay23 d a q (ix3 0 j r) = k0_pay21 d a q (ix2 j r) by pointwise [k0_pay23]).trans (pay21_apply d a q j r h)

theorem pay24_apply (d : Vec Ideal S256x512 .f32) (a : Vec Ideal S256x2048 .bf16) (q : Vec Ideal S1x2048x512 .bf16) (j : Fin 512) (r : Fin 256)
    (h : IsReal (k0_pay17 d a q (ix2 j r))) : k0_pay24 d a q (ix3 0 j r) = 0 :=
  (show k0_pay24 d a q (ix3 0 j r) = k0_pay20 d a q (ix2 j r) - k0_pay21 d a q (ix2 j r) by pointwise [k0_pay24]).trans
    (by rw [pay20_apply d a q j r h, pay21_apply d a q j r h, IsReal.zero.sub_self])

/-! ## A superblock of the Gram matrix -/

/-- One product of two blocks of rows. -/
theorem bb_apply (u v : FVec Ideal S512x2048 .bf16) (i j : Fin 512) :
    matmul dot_S512x2048_S512x2048_S512x512_1_1_0_0_n_n none u v (constant S512x512 .f32 0x00000000#32) (ix2 i j)
      = ∑ k : Fin 2048, u (ix2 i k) * v (ix2 j k) := by
  pointwise

theorem drop_apply (u : FVec Ideal S1x512x2048 .bf16) (i : Fin 512) (k : Fin 2048) : shapeCast S512x2048 u shapeCasts_S1x512x2048_S512x2048 (ix2 i k) = u (ix3 0 i k) := by
  pointwise

/-- A product of which the left factor is zero; -/
theorem bb_zero_left (u v : FVec Ideal S1x512x2048 .bf16) (hu : ∀ i k, u (ix3 0 i k) = 0) (i j : Fin 512) :
    matmul dot_S512x2048_S512x2048_S512x512_1_1_0_0_n_n none (shapeCast S512x2048 u shapeCasts_S1x512x2048_S512x2048) (shapeCast S512x2048 v shapeCasts_S1x512x2048_S512x2048)
      (constant S512x512 .f32 0x00000000#32) (ix2 i j) = (0 : EReal) := by
  refine (bb_apply _ _ i j).trans (Finset.sum_eq_zero fun k _ => ?_)
  rw [drop_apply, hu, zero_mul]

/-- or the right one. -/
theorem bb_zero_right (u v : FVec Ideal S1x512x2048 .bf16) (hv : ∀ i k, v (ix3 0 i k) = 0) (i j : Fin 512) :
    matmul dot_S512x2048_S512x2048_S512x512_1_1_0_0_n_n none (shapeCast S512x2048 u shapeCasts_S1x512x2048_S512x2048) (shapeCast S512x2048 v shapeCasts_S1x512x2048_S512x2048)
      (constant S512x512 .f32 0x00000000#32) (ix2 i j) = (0 : EReal) := by
  refine (bb_apply _ _ i j).trans (Finset.sum_eq_zero fun k _ => ?_)
  rw [drop_apply v, hv, mul_zero]

theorem pay1_apply (h m l h' m' l' : Vec Ideal S1x512x2048 .bf16) (hm : ∀ i k, m (ix3 0 i k) = 0) (hl : ∀ i k, l (ix3 0 i k) = 0)
    (hm' : ∀ i k, m' (ix3 0 i k) = 0) (hl' : ∀ i k, l' (ix3 0 i k) = 0) (i j : Fin 512) : k0_pay1 h m l h' m' l' (ix2 i j) = 0 := by
  unfold k0_pay1
  show ((_ + _ : EReal) + _) + (_ + _) = 0
  rw [bb_zero_left l h' hl, bb_zero_right h l' hl', bb_zero_left m m' hm, bb_zero_left m h' hm, bb_zero_right h m' hm']
  simp only [add_zero]

theorem pay4_apply (h m l : Vec Ideal S1x512x2048 .bf16) (hm : ∀ i k, m (ix3 0 i k) = 0) (hl : ∀ i k, l (ix3 0 i k) = 0)
    (i j : Fin 512) : k0_pay4 h m l (ix2 i j) = 0 := by
  have e : ∀ w : FVec Ideal S512x512 .f32, transpose S512x512 [1, 0] w transposes_S512x512_p1_0_S512x512 (ix2 i j) = w (ix2 j i) := fun w => by pointwise
  unfold k0_pay4
  show ((_ + _ : EReal) + transpose S512x512 [1, 0] _ transposes_S512x512_p1_0_S512x512 (ix2 i j)) + _ = 0
  rw [e]
  show ((_ + _ : EReal) + (_ + _)) + _ = 0
  rw [bb_zero_left l h hl, bb_zero_left m h hm, bb_zero_left l h hl, bb_zero_left m h hm, bb_zero_left m m hm]
  simp only [add_zero]

theorem pay2_apply (h m l h' m' l' : Vec Ideal S1x512x2048 .bf16) (hm : ∀ i k, m (ix3 0 i k) = 0) (hl : ∀ i k, l (ix3 0 i k) = 0)
    (hm' : ∀ i k, m' (ix3 0 i k) = 0) (hl' : ∀ i k, l' (ix3 0 i k) = 0) (i : Fin 256) (j : Fin 512) : k0_pay2 h m l h' m' l' (ix2 i j) = 0 :=
  (show k0_pay2 h m l h' m' l' (ix2 i j) = k0_pay1 h m l h' m' l' (ix2 ⟨i.val, by omega⟩ j) by pointwise [k0_pay2]).trans (pay1_apply h m l h' m' l' hm hl hm' hl' _ j)

theorem pay3_apply (h m l h' m' l' : Vec Ideal S1x512x2048 .bf16) (hm : ∀ i k, m (ix3 0 i k) = 0) (hl : ∀ i k, l (ix3 0 i k) = 0)
    (hm' : ∀ i k, m' (ix3 0 i k) = 0) (hl' : ∀ i k, l' (ix3 0 i k) = 0) (i : Fin 256) (j : Fin 512) : k0_pay3 h m l h' m' l' (ix2 i j) = 0 :=
  (show k0_pay3 h m l h' m' l' (ix2 i j) = k0_pay1 h m l h' m' l' (ix2 ⟨256 + i.val, by omega⟩ j) by pointwise [k0_pay3]).trans (pay1_apply h m l h' m' l' hm hl hm' hl' _ j)

theorem pay5_apply (h m l : Vec Ideal S1x512x2048 .bf16) (hm : ∀ i k, m (ix3 0 i k) = 0) (hl : ∀ i k, l (ix3 0 i k) = 0)
    (i : Fin 256) (j : Fin 512) : k0_pay5 h m l (ix2 i j) = 0 :=
  (show k0_pay5 h m l (ix2 i j) = k0_pay4 h m l (ix2 ⟨i.val, by omega⟩ j) by pointwise [k0_pay5]).trans (pay4_apply h m l hm hl _ j)

theorem pay6_apply (h m l : Vec Ideal S1x512x2048 .bf16) (hm : ∀ i k, m (ix3 0 i k) = 0) (hl : ∀ i k, l (ix3 0 i k) = 0)
    (i : Fin 256) (j : Fin 512) : k0_pay6 h m l (ix2 i j) = 0 :=
  (show k0_pay6 h m l (ix2 i j) = k0_pay4 h m l (ix2 ⟨256 + i.val, by omega⟩ j) by pointwise [k0_pay6]).trans (pay4_apply h m l hm hl _ j)

theorem pay7_apply (h h' : Vec Ideal S1x512x2048 .bf16) (i j : Fin 512) : k0_pay7 h h' (ix2 i j) = ∑ k : Fin 2048, h (ix3 0 i k) * h' (ix3 0 j k) := by
  pointwise [k0_pay7]

theorem pay8_apply (h h' : Vec Ideal S1x512x2048 .bf16) (d : Vec Ideal S256x512 .f32) (i : Fin 256) (j : Fin 512) :
    k0_pay8 h h' d (ix3 0 i j) = d (ix2 i j) + ∑ k : Fin 2048, h (ix3 0 ⟨i.val, by omega⟩ k) * h' (ix3 0 j k) :=
  (show k0_pay8 h h' d (ix3 0 i j) = d (ix2 i j) + k0_pay7 h h' (ix2 ⟨i.val, by omega⟩ j) by pointwise [k0_pay8]).trans (by rw [pay7_apply])

theorem pay9_apply (h h' : Vec Ideal S1x512x2048 .bf16) (d : Vec Ideal S256x512 .f32) (i : Fin 256) (j : Fin 512) :
    k0_pay9 h h' d (ix3 0 i j) = d (ix2 i j) + ∑ k : Fin 2048, h (ix3 0 ⟨256 + i.val, by omega⟩ k) * h' (ix3 0 j k) :=
  (show k0_pay9 h h' d (ix3 0 i j) = d (ix2 i j) + k0_pay7 h h' (ix2 ⟨256 + i.val, by omega⟩ j) by pointwise [k0_pay9]).trans (by rw [pay7_apply])

end Cert.PowerGramIdeal.Math

end
-- ==== Proof.PowerGramIdeal.Reads.lean ====
/-
  What a list of stores leaves at an index, for the four lists the kernel makes: chunks of columns or of rows, and the
  twelve pieces of the kept parts.
-/
module

public import proofs.«01_k».proof.Proof.PowerGramIdeal.Payload

@[expose] public section

set_option maxRecDepth 16384

noncomputable section

open Idealize.ShloMosaic Idealize.ShloMosaic.TcCoe Idealize.SL.Sem

namespace Cert.PowerGramIdeal.Math

open Cert.PowerGramIdeal Cert.PowerGramIdeal.Gen

local notation "V" => Elt Ideal

theorem tmp_read0 {sp : Space} (v : View sig .tc sp S256x2048 .f32) (f : v.ty.Contents V) (h0 : ∀ a, (![0, 0] : Fin 2 → ℕ) a + S256x512.size a ≤ S256x2048.size a) (h1 : ∀ a, (![0, 512] : Fin 2 → ℕ) a + S256x512.size a ≤ S256x2048.size a) (h2 : ∀ a, (![0, 1024] : Fin 2 → ℕ) a + S256x512.size a ≤ S256x2048.size a) (h3 : ∀ a, (![0, 1536] : Fin 2 → ℕ) a + S256x512.size a ≤ S256x2048.size a)
    (w0 : S256x512.Idx → V .f32) (w1 : S256x512.Idx → V .f32) (w2 : S256x512.Idx → V .f32) (w3 : S256x512.Idx → V .f32) (r : Fin 256) (l : Fin 512) :
    v.read V (v.writes V f [⟨Rect.unit ![0, 1536] S256x512.size h3, w3⟩, ⟨Rect.unit ![0, 1024] S256x512.size h2, w2⟩, ⟨Rect.unit ![0, 512] S256x512.size h1, w1⟩, ⟨Rect.unit ![0, 0] S256x512.size h0, w0⟩]) (ix2 r ⟨0 + l.val, by omega⟩) = w0 (ix2 r l) := by
  refine (View.read_writes_cons_unit_of_not_mem _ _ _ _ _ _ rfl 1 ?_).trans ?_
  · exact Or.inl (by show 0 + l.val < 1536; omega)
  refine (View.read_writes_cons_unit_of_not_mem _ _ _ _ _ _ rfl 1 ?_).trans ?_
  · exact Or.inl (by show 0 + l.val < 1024; omega)
  refine (View.read_writes_cons_unit_of_not_mem _ _ _ _ _ _ rfl 1 ?_).trans ?_
  · exact Or.inl (by show 0 + l.val < 512; omega)
  refine View.read_writes_cons_unit_of_mem v f h0 w0 _ _ (ix2 r l) rfl ?_
  · intro a
    fin_cases a
    · exact (Nat.zero_add _).symm
    · rfl

theorem tmp_read1 {sp : Space} (v : View sig .tc sp S256x2048 .f32) (f : v.ty.Contents V) (h0 : ∀ a, (![0, 0] : Fin 2 → ℕ) a + S256x512.size a ≤ S256x2048.size a) (h1 : ∀ a, (![0, 512] : Fin 2 → ℕ) a + S256x512.size a ≤ S256x2048.size a) (h2 : ∀ a, (![0, 1024] : Fin 2 → ℕ) a + S256x512.size a ≤ S256x2048.size a) (h3 : ∀ a, (![0, 1536] : Fin 2 → ℕ) a + S256x512.size a ≤ S256x2048.size a)
    (w0 : S256x512.Idx → V .f32) (w1 : S256x512.Idx → V .f32) (w2 : S256x512.Idx → V .f32) (w3 : S256x512.Idx → V .f32) (r : Fin 256) (l : Fin 512) :
    v.read V (v.writes V f [⟨Rect.unit ![0, 1536] S256x512.size h3, w3⟩, ⟨Rect.unit ![0, 1024] S256x512.size h2, w2⟩, ⟨Rect.unit ![0, 512] S256x512.size h1, w1⟩, ⟨Rect.unit ![0, 0] S256x512.size h0, w0⟩]) (ix2 r ⟨512 + l.val, by omega⟩) = w1 (ix2 r l) := by
  refine (View.read_writes_cons_unit_of_not_mem _ _ _ _ _ _ rfl 1 ?_).trans ?_
  · exact Or.inl (by show 512 + l.val < 1536; omega)
  refine (View.read_writes_cons_unit_of_not_mem _ _ _ _ _ _ rfl 1 ?_).trans ?_
  · exact Or.inl (by show 512 + l.val < 1024; omega)
  refine View.read_writes_cons_unit_of_mem v f h1 w1 _ _ (ix2 r l) rfl ?_
  · intro a
    fin_cases a
    · exact (Nat.zero_add _).symm
    · rfl

theorem tmp_read2 {sp : Space} (v : View sig .tc sp S256x2048 .f32) (f : v.ty.Contents V) (h0 : ∀ a, (![0, 0] : Fin 2 → ℕ) a + S256x512.size a ≤ S256x2048.size a) (h1 : ∀ a, (![0, 512] : Fin 2 → ℕ) a + S256x512.size a ≤ S256x2048.size a) (h2 : ∀ a, (![0, 1024] : Fin 2 → ℕ) a + S256x512.size a ≤ S256x2048.size a) (h3 : ∀ a, (![0, 1536] : Fin 2 → ℕ) a + S256x512.size a ≤ S256x2048.size a)
    (w0 : S256x512.Idx → V .f32) (w1 : S256x512.Idx → V .f32) (w2 : S256x512.Idx → V .f32) (w3 : S256x512.Idx → V .f32) (r : Fin 256) (l : Fin 512) :
    v.read V (v.writes V f [⟨Rect.unit ![0, 1536] S256x512.size h3, w3⟩, ⟨Rect.unit ![0, 1024] S256x512.size h2, w2⟩, ⟨Rect.unit ![0, 512] S256x512.size h1, w1⟩, ⟨Rect.unit ![0, 0] S256x512.size h0, w0⟩]) (ix2 r ⟨1024 + l.val, by omega⟩) = w2 (ix2 r l) := by
  refine (View.read_writes_cons_unit_of_not_mem _ _ _ _ _ _ rfl 1 ?_).trans ?_
  · exact Or.inl (by show 1024 + l.val < 1536; omega)
  refine View.read_writes_cons_unit_of_mem v f h2 w2 _ _ (ix2 r l) rfl ?_
  · intro a
    fin_cases a
    · exact (Nat.zero_add _).symm
    · rfl

theorem tmp_read3 {sp : Space} (v : View sig .tc sp S256x2048 .f32) (f : v.ty.Contents V) (h0 : ∀ a, (![0, 0] : Fin 2 → ℕ) a + S256x512.size a ≤ S256x2048.size a) (h1 : ∀ a, (![0, 512] : Fin 2 → ℕ) a + S256x512.size a ≤ S256x2048.size a) (h2 : ∀ a, (![0, 1024] : Fin 2 → ℕ) a + S256x512.size a ≤ S256x2048.size a) (h3 : ∀ a, (![0, 1536] : Fin 2 → ℕ) a + S256x512.size a ≤ S256x2048.size a)
    (w0 : S256x512.Idx → V .f32) (w1 : S256x512.Idx → V .f32) (w2 : S256x512.Idx → V .f32) (w3 : S256x512.Idx → V .f32) (r : Fin 256) (l : Fin 512) :
    v.read V (v.writes V f [⟨Rect.unit ![0, 1536] S256x512.size h3, w3⟩, ⟨Rect.unit ![0, 1024] S256x512.size h2, w2⟩, ⟨Rect.unit ![0, 512] S256x512.size h1, w1⟩, ⟨Rect.unit ![0, 0] S256x512.size h0, w0⟩]) (ix2 r ⟨1536 + l.val, by omega⟩) = w3 (ix2 r l) := by

  refine View.read_writes_cons_unit_of_mem v f h3 w3 _ _ (ix2 r l) rfl ?_
  · intro a
    fin_cases a
    · exact (Nat.zero_add _).symm
    · rfl

theorem x_read0 {sp : Space} (v : View sig .tc sp S1x2048x256 .f32) (f : v.ty.Contents V) (h0 : ∀ a, (![0, 0, 0] : Fin 3 → ℕ) a + S1x512x256.size a ≤ S1x2048x256.size a) (h1 : ∀ a, (![0, 512, 0] : Fin 3 → ℕ) a + S1x512x256.size a ≤ S1x2048x256.size a) (h2 : ∀ a, (![0, 1024, 0] : Fin 3 → ℕ) a + S1x512x256.size a ≤ S1x2048x256.size a) (h3 : ∀ a, (![0, 1536, 0] : Fin 3 → ℕ) a + S1x512x256.size a ≤ S1x2048x256.size a)
    (w0 : S1x512x256.Idx → V .f32) (w1 : S1x512x256.Idx → V .f32) (w2 : S1x512x256.Idx → V .f32) (w3 : S1x512x256.Idx → V .f32) (l : Fin 512) (r : Fin 256) :
    v.read V (v.writes V f [⟨Rect.unit ![0, 1536, 0] S1x512x256.size h3, w3⟩, ⟨Rect.unit ![0, 1024, 0] S1x512x256.size h2, w2⟩, ⟨Rect.unit ![0, 512, 0] S1x512x256.size h1, w1⟩, ⟨Rect.unit ![0, 0, 0] S1x512x256.size h0, w0⟩]) (ix3 0 ⟨0 + l.val, by omega⟩ r) = w0 (ix3 0 l r) := by
  refine (View.read_writes_cons_unit_of_not_mem _ _ _ _ _ _ rfl 1 ?_).trans ?_
  · exact Or.inl (by show 0 + l.val < 1536; omega)
  refine (View.read_writes_cons_unit_of_not_mem _ _ _ _ _ _ rfl 1 ?_).trans ?_
  · exact Or.inl (by show 0 + l.val < 1024; omega)
  refine (View.read_writes_cons_unit_of_not_mem _ _ _ _ _ _ rfl 1 ?_).trans ?_
  · exact Or.inl (by show 0 + l.val < 512; omega)
  refine View.read_writes_cons_unit_of_mem v f h0 w0 _ _ (ix3 0 l r) rfl ?_
  · intro a
    fin_cases a
    · rfl
    · rfl
    · exact (Nat.zero_add _).symm

theorem x_read1 {sp : Space} (v : View sig .tc sp S1x2048x256 .f32) (f : v.ty.Contents V) (h0 : ∀ a, (![0, 0, 0] : Fin 3 → ℕ) a + S1x512x256.size a ≤ S1x2048x256.size a) (h1 : ∀ a, (![0, 512, 0] : Fin 3 → ℕ) a + S1x512x256.size a ≤ S1x2048x256.size a) (h2 : ∀ a, (![0, 1024, 0] : Fin 3 → ℕ) a + S1x512x256.size a ≤ S1x2048x256.size a) (h3 : ∀ a, (![0, 1536, 0] : Fin 3 → ℕ) a + S1x512x256.size a ≤ S1x2048x256.size a)
    (w0 : S1x512x256.Idx → V .f32) (w1 : S1x512x256.Idx → V .f32) (w2 : S1x512x256.Idx → V .f32) (w3 : S1x512x256.Idx → V .f32) (l : Fin 512) (r : Fin 256) :
    v.read V (v.writes V f [⟨Rect.unit ![0, 1536, 0] S1x512x256.size h3, w3⟩, ⟨Rect.unit ![0, 1024, 0] S1x512x256.size h2, w2⟩, ⟨Rect.unit ![0, 512, 0] S1x512x256.size h1, w1⟩, ⟨Rect.unit ![0, 0, 0] S1x512x256.size h0, w0⟩]) (ix3 0 ⟨512 + l.val, by omega⟩ r) = w1 (ix3 0 l r) := by
  refine (View.read_writes_cons_unit_of_not_mem _ _ _ _ _ _ rfl 1 ?_).trans ?_
  · exact Or.inl (by show 512 + l.val < 1536; omega)
  refine (View.read_writes_cons_unit_of_not_mem _ _ _ _ _ _ rfl 1 ?_).trans ?_
  · exact Or.inl (by show 512 + l.val < 1024; omega)
  refine View.read_writes_cons_unit_of_mem v f h1 w1 _ _ (ix3 0 l r) rfl ?_
  · intro a
    fin_cases a
    · rfl
    · rfl
    · exact (Nat.zero_add _).symm

theorem x_read2 {sp : Space} (v : View sig .tc sp S1x2048x256 .f32) (f : v.ty.Contents V) (h0 : ∀ a, (![0, 0, 0] : Fin 3 → ℕ) a + S1x512x256.size a ≤ S1x2048x256.size a) (h1 : ∀ a, (![0, 512, 0] : Fin 3 → ℕ) a + S1x512x256.size a ≤ S1x2048x256.size a) (h2 : ∀ a, (![0, 1024, 0] : Fin 3 → ℕ) a + S1x512x256.size a ≤ S1x2048x256.size a) (h3 : ∀ a, (![0, 1536, 0] : Fin 3 → ℕ) a + S1x512x256.size a ≤ S1x2048x256.size a)
    (w0 : S1x512x256.Idx → V .f32) (w1 : S1x512x256.Idx → V .f32) (w2 : S1x512x256.Idx → V .f32) (w3 : S1x512x256.Idx → V .f32) (l : Fin 512) (r : Fin 256) :
    v.read V (v.writes V f [⟨Rect.unit ![0, 1536, 0] S1x512x256.size h3, w3⟩, ⟨Rect.unit ![0, 1024, 0] S1x512x256.size h2, w2⟩, ⟨Rect.unit ![0, 512, 0] S1x512x256.size h1, w1⟩, ⟨Rect.unit ![0, 0, 0] S1x512x256.size h0, w0⟩]) (ix3 0 ⟨1024 + l.val, by omega⟩ r) = w2 (ix3 0 l r) := by
  refine (View.read_writes_cons_unit_of_not_mem _ _ _ _ _ _ rfl 1 ?_).trans ?_
  · exact Or.inl (by show 1024 + l.val < 1536; omega)
  refine View.read_writes_cons_unit_of_mem v f h2 w2 _ _ (ix3 0 l r) rfl ?_
  · intro a
    fin_cases a
    · rfl
    · rfl
    · exact (Nat.zero_add _).symm

theorem x_read3 {sp : Space} (v : View sig .tc sp S1x2048x256 .f32) (f : v.ty.Contents V) (h0 : ∀ a, (![0, 0, 0] : Fin 3 → ℕ) a + S1x512x256.size a ≤ S1x2048x256.size a) (h1 : ∀ a, (![0, 512, 0] : Fin 3 → ℕ) a + S1x512x256.size a ≤ S1x2048x256.size a) (h2 : ∀ a, (![0, 1024, 0] : Fin 3 → ℕ) a + S1x512x256.size a ≤ S1x2048x256.size a) (h3 : ∀ a, (![0, 1536, 0] : Fin 3 → ℕ) a + S1x512x256.size a ≤ S1x2048x256.size a)
    (w0 : S1x512x256.Idx → V .f32) (w1 : S1x512x256.Idx → V .f32) (w2 : S1x512x256.Idx → V .f32) (w3 : S1x512x256.Idx → V .f32) (l : Fin 512) (r : Fin 256) :
    v.read V (v.writes V f [⟨Rect.unit ![0, 1536, 0] S1x512x256.size h3, w3⟩, ⟨Rect.unit ![0, 1024, 0] S1x512x256.size h2, w2⟩, ⟨Rect.unit ![0, 512, 0] S1x512x256.size h1, w1⟩, ⟨Rect.unit ![0, 0, 0] S1x512x256.size h0, w0⟩]) (ix3 0 ⟨1536 + l.val, by omega⟩ r) = w3 (ix3 0 l r) := by

  refine View.read_writes_cons_unit_of_mem v f h3 w3 _ _ (ix3 0 l r) rfl ?_
  · intro a
    fin_cases a
    · rfl
    · rfl
    · exact (Nat.zero_add _).symm

theorem g_read0 {sp : Space} (v : View sig .tc sp S1x512x512 .f32) (f : v.ty.Contents V) (h0 : ∀ a, (![0, 0, 0] : Fin 3 → ℕ) a + S1x256x512.size a ≤ S1x512x512.size a) (h1 : ∀ a, (![0, 256, 0] : Fin 3 → ℕ) a + S1x256x512.size a ≤ S1x512x512.size a)
    (w0 : S1x256x512.Idx → V .f32) (w1 : S1x256x512.Idx → V .f32) (l : Fin 256) (r : Fin 512) :
    v.read V (v.writes V f [⟨Rect.unit ![0, 0, 0] S1x256x512.size h0, w0⟩, ⟨Rect.unit ![0, 256, 0] S1x256x512.size h1, w1⟩]) (ix3 0 ⟨0 + l.val, by omega⟩ r) = w0 (ix3 0 l r) := by

  refine View.read_writes_cons_unit_of_mem v f h0 w0 _ _ (ix3 0 l r) rfl ?_
  · intro a
    fin_cases a
    · rfl
    · rfl
    · exact (Nat.zero_add _).symm

theorem g_read1 {sp : Space} (v : View sig .tc sp S1x512x512 .f32) (f : v.ty.Contents V) (h0 : ∀ a, (![0, 0, 0] : Fin 3 → ℕ) a + S1x256x512.size a ≤ S1x512x512.size a) (h1 : ∀ a, (![0, 256, 0] : Fin 3 → ℕ) a + S1x256x512.size a ≤ S1x512x512.size a)
    (w0 : S1x256x512.Idx → V .f32) (w1 : S1x256x512.Idx → V .f32) (l : Fin 256) (r : Fin 512) :
    v.read V (v.writes V f [⟨Rect.unit ![0, 0, 0] S1x256x512.size h0, w0⟩, ⟨Rect.unit ![0, 256, 0] S1x256x512.size h1, w1⟩]) (ix3 0 ⟨256 + l.val, by omega⟩ r) = w1 (ix3 0 l r) := by
  refine (View.read_writes_cons_unit_of_not_mem _ _ _ _ _ _ rfl 1 ?_).trans ?_
  · exact Or.inr (by show 0 + 256 ≤ 256 + l.val; omega)
  refine View.read_writes_cons_unit_of_mem v f h1 w1 _ _ (ix3 0 l r) rfl ?_
  · intro a
    fin_cases a
    · rfl
    · rfl
    · exact (Nat.zero_add _).symm

theorem sums_read0 {sp : Space} (v : View sig .tc sp S256x2048 .f32) (f : v.ty.Contents V) (h0 : ∀ a, (![0, 0] : Fin 2 → ℕ) a + S256x512.size a ≤ S256x2048.size a) (h1 : ∀ a, (![0, 512] : Fin 2 → ℕ) a + S256x512.size a ≤ S256x2048.size a)
    (w0 : S256x512.Idx → V .f32) (w1 : S256x512.Idx → V .f32) (r : Fin 256) (l : Fin 512) :
    v.read V (v.writes V f [⟨Rect.unit ![0, 512] S256x512.size h1, w1⟩, ⟨Rect.unit ![0, 0] S256x512.size h0, w0⟩]) (ix2 r ⟨0 + l.val, by omega⟩) = w0 (ix2 r l) := by
  refine (View.read_writes_cons_unit_of_not_mem _ _ _ _ _ _ rfl 1 ?_).trans ?_
  · exact Or.inl (by show 0 + l.val < 512; omega)
  refine View.read_writes_cons_unit_of_mem v f h0 w0 _ _ (ix2 r l) rfl ?_
  · intro a
    fin_cases a
    · exact (Nat.zero_add _).symm
    · rfl

theorem sums_read1 {sp : Space} (v : View sig .tc sp S256x2048 .f32) (f : v.ty.Contents V) (h0 : ∀ a, (![0, 0] : Fin 2 → ℕ) a + S256x512.size a ≤ S256x2048.size a) (h1 : ∀ a, (![0, 512] : Fin 2 → ℕ) a + S256x512.size a ≤ S256x2048.size a)
    (w0 : S256x512.Idx → V .f32) (w1 : S256x512.Idx → V .f32) (r : Fin 256) (l : Fin 512) :
    v.read V (v.writes V f [⟨Rect.unit ![0, 512] S256x512.size h1, w1⟩, ⟨Rect.unit ![0, 0] S256x512.size h0, w0⟩]) (ix2 r ⟨512 + l.val, by omega⟩) = w1 (ix2 r l) := by

  refine View.read_writes_cons_unit_of_mem v f h1 w1 _ _ (ix2 r l) rfl ?_
  · intro a
    fin_cases a
    · exact (Nat.zero_add _).symm
    · rfl

theorem ss_read0 {sp : Space} (v : View sig .tc sp S256x6144 .bf16) (f : v.ty.Contents V) (h0 : ∀ a, (![0, 0] : Fin 2 → ℕ) a + S256x2048.size a ≤ S256x6144.size a) (h1 : ∀ a, (![0, 2048] : Fin 2 → ℕ) a + S256x2048.size a ≤ S256x6144.size a) (h2 : ∀ a, (![0, 4096] : Fin 2 → ℕ) a + S256x2048.size a ≤ S256x6144.size a)
    (w0 : S256x2048.Idx → V .bf16) (w1 : S256x2048.Idx → V .bf16) (w2 : S256x2048.Idx → V .bf16) (r : Fin 256) (l : Fin 2048) :
    v.read V (v.writes V f [⟨Rect.unit ![0, 4096] S256x2048.size h2, w2⟩, ⟨Rect.unit ![0, 2048] S256x2048.size h1, w1⟩, ⟨Rect.unit ![0, 0] S256x2048.size h0, w0⟩]) (ix2 r ⟨0 + l.val, by omega⟩) = w0 (ix2 r l) := by
  refine (View.read_writes_cons_unit_of_not_mem _ _ _ _ _ _ rfl 1 ?_).trans ?_
  · exact Or.inl (by show 0 + l.val < 4096; omega)
  refine (View.read_writes_cons_unit_of_not_mem _ _ _ _ _ _ rfl 1 ?_).trans ?_
  · exact Or.inl (by show 0 + l.val < 2048; omega)
  refine View.read_writes_cons_unit_of_mem v f h0 w0 _ _ (ix2 r l) rfl ?_
  · intro a
    fin_cases a
    · exact (Nat.zero_add _).symm
    · rfl

theorem ss_read1 {sp : Space} (v : View sig .tc sp S256x6144 .bf16) (f : v.ty.Contents V) (h0 : ∀ a, (![0, 0] : Fin 2 → ℕ) a + S256x2048.size a ≤ S256x6144.size a) (h1 : ∀ a, (![0, 2048] : Fin 2 → ℕ) a + S256x2048.size a ≤ S256x6144.size a) (h2 : ∀ a, (![0, 4096] : Fin 2 → ℕ) a + S256x2048.size a ≤ S256x6144.size a)
    (w0 : S256x2048.Idx → V .bf16) (w1 : S256x2048.Idx → V .bf16) (w2 : S256x2048.Idx → V .bf16) (r : Fin 256) (l : Fin 2048) :
    v.read V (v.writes V f [⟨Rect.unit ![0, 4096] S256x2048.size h2, w2⟩, ⟨Rect.unit ![0, 2048] S256x2048.size h1, w1⟩, ⟨Rect.unit ![0, 0] S256x2048.size h0, w0⟩]) (ix2 r ⟨2048 + l.val, by omega⟩) = w1 (ix2 r l) := by
  refine (View.read_writes_cons_unit_of_not_mem _ _ _ _ _ _ rfl 1 ?_).trans ?_
  · exact Or.inl (by show 2048 + l.val < 4096; omega)
  refine View.read_writes_cons_unit_of_mem v f h1 w1 _ _ (ix2 r l) rfl ?_
  · intro a
    fin_cases a
    · exact (Nat.zero_add _).symm
    · rfl

theorem ss_read2 {sp : Space} (v : View sig .tc sp S256x6144 .bf16) (f : v.ty.Contents V) (h0 : ∀ a, (![0, 0] : Fin 2 → ℕ) a + S256x2048.size a ≤ S256x6144.size a) (h1 : ∀ a, (![0, 2048] : Fin 2 → ℕ) a + S256x2048.size a ≤ S256x6144.size a) (h2 : ∀ a, (![0, 4096] : Fin 2 → ℕ) a + S256x2048.size a ≤ S256x6144.size a)
    (w0 : S256x2048.Idx → V .bf16) (w1 : S256x2048.Idx → V .bf16) (w2 : S256x2048.Idx → V .bf16) (r : Fin 256) (l : Fin 2048) :
    v.read V (v.writes V f [⟨Rect.unit ![0, 4096] S256x2048.size h2, w2⟩, ⟨Rect.unit ![0, 2048] S256x2048.size h1, w1⟩, ⟨Rect.unit ![0, 0] S256x2048.size h0, w0⟩]) (ix2 r ⟨4096 + l.val, by omega⟩) = w2 (ix2 r l) := by

  refine View.read_writes_cons_unit_of_mem v f h2 w2 _ _ (ix2 r l) rfl ?_
  · intro a
    fin_cases a
    · exact (Nat.zero_add _).symm
    · rfl

theorem xs_read1 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 0 ⟨0 + l.val, by omega⟩ k) = w1 (ix3 0 l r) := by
  refine (View.read_writes_cons_unit_of_not_mem _ _ _ _ _ _ e12 1 ?_).trans ?_
  · exact Or.inl (by show 0 + l.val < 1536; omega)
  refine (View.read_writes_cons_unit_of_not_mem _ _ _ _ _ _ e11 1 ?_).trans ?_
  · exact Or.inl (by show 0 + l.val < 1536; omega)
  refine (View.read_writes_cons_unit_of_not_mem _ _ _ _ _ _ e10 1 ?_).trans ?_
  · exact Or.inl (by show 0 + l.val < 1536; omega)
  refine (View.read_writes_cons_unit_of_not_mem _ _ _ _ _ _ e9 1 ?_).trans ?_
  · exact Or.inl (by show 0 + l.val < 1024; omega)
  refine (View.read_writes_cons_unit_of_not_mem _ _ _ _ _ _ e8 1 ?_).trans ?_
  · exact Or.inl (by show 0 + l.val < 1024; omega)
  refine (View.read_writes_cons_unit_of_not_mem _ _ _ _ _ _ e7 1 ?_).trans ?_
  · exact Or.inl (by show 0 + l.val < 1024; omega)
  refine (View.read_writes_cons_unit_of_not_mem _ _ _ _ _ _ e6 1 ?_).trans ?_
  · exact Or.inl (by show 0 + l.val < 512; omega)
  refine (View.read_writes_cons_unit_of_not_mem _ _ _ _ _ _ e5 1 ?_).trans ?_
  · exact Or.inl (by show 0 + l.val < 512; omega)
  refine (View.read_writes_cons_unit_of_not_mem _ _ _ _ _ _ e4 1 ?_).trans ?_
  · exact Or.inl (by show 0 + l.val < 512; omega)
  refine (View.read_writes_cons_unit_of_not_mem _ _ _ _ _ _ e3 0 ?_).trans ?_
  · exact Or.inl (by show 0 < 2; omega)
  refine (View.read_writes_cons_unit_of_not_mem _ _ _ _ _ _ e2 0 ?_).trans ?_
  · exact Or.inl (by show 0 < 1; omega)
  refine View.read_writes_cons_unit_of_mem v f h1 w1 _ _ (ix3 0 l r) e1 ?_
  · intro a
    fin_cases a
    · rfl
    · rfl
    · exact hk

theorem xs_read2 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 1 ⟨0 + l.val, by omega⟩ k) = w2 (ix3 0 l r) := by
  refine (View.read_writes_cons_unit_of_not_mem _ _ _ _ _ _ e12 1 ?_).trans ?_
  · exact Or.inl (by show 0 + l.val < 1536; omega)
  refine (View.read_writes_cons_unit_of_not_mem _ _ _ _ _ _ e11 1 ?_).trans ?_
  · exact Or.inl (by show 0 + l.val < 1536; omega)
  refine (View.read_writes_cons_unit_of_not_mem _ _ _ _ _ _ e10 1 ?_).trans ?_
  · exact Or.inl (by show 0 + l.val < 1536; omega)
  refine (View.read_writes_cons_unit_of_not_mem _ _ _ _ _ _ e9 1 ?_).trans ?_
  · exact Or.inl (by show 0 + l.val < 1024; omega)
  refine (View.read_writes_cons_unit_of_not_mem _ _ _ _ _ _ e8 1 ?_).trans ?_
  · exact Or.inl (by show 0 + l.val < 1024; omega)
  refine (View.read_writes_cons_unit_of_not_mem _ _ _ _ _ _ e7 1 ?_).trans ?_
  · exact Or.inl (by show 0 + l.val < 1024; omega)
  refine (View.read_writes_cons_unit_of_not_mem _ _ _ _ _ _ e6 1 ?_).trans ?_
  · exact Or.inl (by show 0 + l.val < 512; omega)
  refine (View.read_writes_cons_unit_of_not_mem _ _ _ _ _ _ e5 1 ?_).trans ?_
  · exact Or.inl (by show 0 + l.val < 512; omega)
  refine (View.read_writes_cons_unit_of_not_mem _ _ _ _ _ _ e4 1 ?_).trans ?_
  · exact Or.inl (by show 0 + l.val < 512; omega)
  refine (View.read_writes_cons_unit_of_not_mem _ _ _ _ _ _ e3 0 ?_).trans ?_
  · exact Or.inl (by show 1 < 2; omega)
  refine View.read_writes_cons_unit_of_mem v f h2 w2 _ _ (ix3 0 l r) e2 ?_
  · intro a
    fin_cases a
    · rfl
    · rfl
    · exact hk

theorem xs_read3 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 2 ⟨0 + l.val, by omega⟩ k) = w3 (ix3 0 l r) := by
  refine (View.read_writes_cons_unit_of_not_mem _ _ _ _ _ _ e12 1 ?_).trans ?_
  · exact Or.inl (by show 0 + l.val < 1536; omega)
  refine (View.read_writes_cons_unit_of_not_mem _ _ _ _ _ _ e11 1 ?_).trans ?_
  · exact Or.inl (by show 0 + l.val < 1536; omega)
  refine (View.read_writes_cons_unit_of_not_mem _ _ _ _ _ _ e10 1 ?_).trans ?_
  · exact Or.inl (by show 0 + l.val < 1536; omega)
  refine (View.read_writes_cons_unit_of_not_mem _ _ _ _ _ _ e9 1 ?_).trans ?_
  · exact Or.inl (by show 0 + l.val < 1024; omega)
  refine (View.read_writes_cons_unit_of_not_mem _ _ _ _ _ _ e8 1 ?_).trans ?_
  · exact Or.inl (by show 0 + l.val < 1024; omega)
  refine (View.read_writes_cons_unit_of_not_mem _ _ _ _ _ _ e7 1 ?_).trans ?_
  · exact Or.inl (by show 0 + l.val < 1024; omega)
  refine (View.read_writes_cons_unit_of_not_mem _ _ _ _ _ _ e6 1 ?_).trans ?_
  · exact Or.inl (by show 0 + l.val < 512; omega)
  refine (View.read_writes_cons_unit_of_not_mem _ _ _ _ _ _ e5 1 ?_).trans ?_
  · exact Or.inl (by show 0 + l.val < 512; omega)
  refine (View.read_writes_cons_unit_of_not_mem _ _ _ _ _ _ e4 1 ?_).trans ?_
  · exact Or.inl (by show 0 + l.val < 512; omega)
  refine View.read_writes_cons_unit_of_mem v f h3 w3 _ _ (ix3 0 l r) e3 ?_
  · intro a
    fin_cases a
    · rfl
    · rfl
    · exact hk

theorem xs_read4 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 0 ⟨512 + l.val, by omega⟩ k) = w4 (ix3 0 l r) := by
  refine (View.read_writes_cons_unit_of_not_mem _ _ _ _ _ _ e12 1 ?_).trans ?_
  · exact Or.inl (by show 512 + l.val < 1536; omega)
  refine (View.read_writes_cons_unit_of_not_mem _ _ _ _ _ _ e11 1 ?_).trans ?_
  · exact Or.inl (by show 512 + l.val < 1536; omega)
  refine (View.read_writes_cons_unit_of_not_mem _ _ _ _ _ _ e10 1 ?_).trans ?_
  · exact Or.inl (by show 512 + l.val < 1536; omega)
  refine (View.read_writes_cons_unit_of_not_mem _ _ _ _ _ _ e9 1 ?_).trans ?_
  · exact Or.inl (by show 512 + l.val < 1024; omega)
  refine (View.read_writes_cons_unit_of_not_mem _ _ _ _ _ _ e8 1 ?_).trans ?_
  · exact Or.inl (by show 512 + l.val < 1024; omega)
  refine (View.read_writes_cons_unit_of_not_mem _ _ _ _ _ _ e7 1 ?_).trans ?_
  · exact Or.inl (by show 512 + l.val < 1024; omega)
  refine (View.read_writes_cons_unit_of_not_mem _ _ _ _ _ _ e6 0 ?_).trans ?_
  · exact Or.inl (by show 0 < 2; omega)
  refine (View.read_writes_cons_unit_of_not_mem _ _ _ _ _ _ e5 0 ?_).trans ?_
  · exact Or.inl (by show 0 < 1; omega)
  refine View.read_writes_cons_unit_of_mem v f h4 w4 _ _ (ix3 0 l r) e4 ?_
  · intro a
    fin_cases a
    · rfl
    · rfl
    · exact hk

theorem xs_read5 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 1 ⟨512 + l.val, by omega⟩ k) = w5 (ix3 0 l r) := by
  refine (View.read_writes_cons_unit_of_not_mem _ _ _ _ _ _ e12 1 ?_).trans ?_
  · exact Or.inl (by show 512 + l.val < 1536; omega)
  refine (View.read_writes_cons_unit_of_not_mem _ _ _ _ _ _ e11 1 ?_).trans ?_
  · exact Or.inl (by show 512 + l.val < 1536; omega)
  refine (View.read_writes_cons_unit_of_not_mem _ _ _ _ _ _ e10 1 ?_).trans ?_
  · exact Or.inl (by show 512 + l.val < 1536; omega)
  refine (View.read_writes_cons_unit_of_not_mem _ _ _ _ _ _ e9 1 ?_).trans ?_
  · exact Or.inl (by show 512 + l.val < 1024; omega)
  refine (View.read_writes_cons_unit_of_not_mem _ _ _ _ _ _ e8 1 ?_).trans ?_
  · exact Or.inl (by show 512 + l.val < 1024; omega)
  refine (View.read_writes_cons_unit_of_not_mem _ _ _ _ _ _ e7 1 ?_).trans ?_
  · exact Or.inl (by show 512 + l.val < 1024; omega)
  refine (View.read_writes_cons_unit_of_not_mem _ _ _ _ _ _ e6 0 ?_).trans ?_
  · exact Or.inl (by show 1 < 2; omega)
  refine View.read_writes_cons_unit_of_mem v f h5 w5 _ _ (ix3 0 l r) e5 ?_
  · intro a
    fin_cases a
    · rfl
    · rfl
    · exact hk

theorem xs_read6 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 2 ⟨512 + l.val, by omega⟩ k) = w6 (ix3 0 l r) := by
  refine (View.read_writes_cons_unit_of_not_mem _ _ _ _ _ _ e12 1 ?_).trans ?_
  · exact Or.inl (by show 512 + l.val < 1536; omega)
  refine (View.read_writes_cons_unit_of_not_mem _ _ _ _ _ _ e11 1 ?_).trans ?_
  · exact Or.inl (by show 512 + l.val < 1536; omega)
  refine (View.read_writes_cons_unit_of_not_mem _ _ _ _ _ _ e10 1 ?_).trans ?_
  · exact Or.inl (by show 512 + l.val < 1536; omega)
  refine (View.read_writes_cons_unit_of_not_mem _ _ _ _ _ _ e9 1 ?_).trans ?_
  · exact Or.inl (by show 512 + l.val < 1024; omega)
  refine (View.read_writes_cons_unit_of_not_mem _ _ _ _ _ _ e8 1 ?_).trans ?_
  · exact Or.inl (by show 512 + l.val < 1024; omega)
  refine (View.read_writes_cons_unit_of_not_mem _ _ _ _ _ _ e7 1 ?_).trans ?_
  · exact Or.inl (by show 512 + l.val < 1024; omega)
  refine View.read_writes_cons_unit_of_mem v f h6 w6 _ _ (ix3 0 l r) e6 ?_
  · intro a
    fin_cases a
    · rfl
    · rfl
    · exact hk

theorem xs_read7 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 0 ⟨1024 + l.val, by omega⟩ k) = w7 (ix3 0 l r) := by
  refine (View.read_writes_cons_unit_of_not_mem _ _ _ _ _ _ e12 1 ?_).trans ?_
  · exact Or.inl (by show 1024 + l.val < 1536; omega)
  refine (View.read_writes_cons_unit_of_not_mem _ _ _ _ _ _ e11 1 ?_).trans ?_
  · exact Or.inl (by show 1024 + l.val < 1536; omega)
  refine (View.read_writes_cons_unit_of_not_mem _ _ _ _ _ _ e10 1 ?_).trans ?_
  · exact Or.inl (by show 1024 + l.val < 1536; omega)
  refine (View.read_writes_cons_unit_of_not_mem _ _ _ _ _ _ e9 0 ?_).trans ?_
  · exact Or.inl (by show 0 < 2; omega)
  refine (View.read_writes_cons_unit_of_not_mem _ _ _ _ _ _ e8 0 ?_).trans ?_
  · exact Or.inl (by show 0 < 1; omega)
  refine View.read_writes_cons_unit_of_mem v f h7 w7 _ _ (ix3 0 l r) e7 ?_
  · intro a
    fin_cases a
    · rfl
    · rfl
    · exact hk

theorem xs_read8 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 1 ⟨1024 + l.val, by omega⟩ k) = w8 (ix3 0 l r) := by
  refine (View.read_writes_cons_unit_of_not_mem _ _ _ _ _ _ e12 1 ?_).trans ?_
  · exact Or.inl (by show 1024 + l.val < 1536; omega)
  refine (View.read_writes_cons_unit_of_not_mem _ _ _ _ _ _ e11 1 ?_).trans ?_
  · exact Or.inl (by show 1024 + l.val < 1536; omega)
  refine (View.read_writes_cons_unit_of_not_mem _ _ _ _ _ _ e10 1 ?_).trans ?_
  · exact Or.inl (by show 1024 + l.val < 1536; omega)
  refine (View.read_writes_cons_unit_of_not_mem _ _ _ _ _ _ e9 0 ?_).trans ?_
  · exact Or.inl (by show 1 < 2; omega)
  refine View.read_writes_cons_unit_of_mem v f h8 w8 _ _ (ix3 0 l r) e8 ?_
  · intro a
    fin_cases a
    · rfl
    · rfl
    · exact hk

theorem xs_read9 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 2 ⟨1024 + l.val, by omega⟩ k) = w9 (ix3 0 l r) := by
  refine (View.read_writes_cons_unit_of_not_mem _ _ _ _ _ _ e12 1 ?_).trans ?_
  · exact Or.inl (by show 1024 + l.val < 1536; omega)
  refine (View.read_writes_cons_unit_of_not_mem _ _ _ _ _ _ e11 1 ?_).trans ?_
  · exact Or.inl (by show 1024 + l.val < 1536; omega)
  refine (View.read_writes_cons_unit_of_not_mem _ _ _ _ _ _ e10 1 ?_).trans ?_
  · exact Or.inl (by show 1024 + l.val < 1536; omega)
  refine View.read_writes_cons_unit_of_mem v f h9 w9 _ _ (ix3 0 l r) e9 ?_
  · intro a
    fin_cases a
    · rfl
    · rfl
    · exact hk

theorem xs_read10 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 0 ⟨1536 + l.val, by omega⟩ k) = w10 (ix3 0 l r) := by
  refine (View.read_writes_cons_unit_of_not_mem _ _ _ _ _ _ e12 0 ?_).trans ?_
  · exact Or.inl (by show 0 < 2; omega)
  refine (View.read_writes_cons_unit_of_not_mem _ _ _ _ _ _ e11 0 ?_).trans ?_
  · exact Or.inl (by show 0 < 1; omega)
  refine View.read_writes_cons_unit_of_mem v f h10 w10 _ _ (ix3 0 l r) e10 ?_
  · intro a
    fin_cases a
    · rfl
    · rfl
    · exact hk

theorem xs_read11 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 1 ⟨1536 + l.val, by omega⟩ k) = w11 (ix3 0 l r) := by
  refine (View.read_writes_cons_unit_of_not_mem _ _ _ _ _ _ e12 0 ?_).trans ?_
  · exact Or.inl (by show 1 < 2; omega)
  refine View.read_writes_cons_unit_of_mem v f h11 w11 _ _ (ix3 0 l r) e11 ?_
  · intro a
    fin_cases a
    · rfl
    · rfl
    · exact hk

theorem xs_read12 {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (l : Fin 512) (r : Fin 256) (k : Fin 2048) (hk : k.val = p + r.val) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 2 ⟨1536 + l.val, by omega⟩ k) = w12 (ix3 0 l r) := by

  refine View.read_writes_cons_unit_of_mem v f h12 w12 _ _ (ix3 0 l r) e12 ?_
  · intro a
    fin_cases a
    · rfl
    · rfl
    · exact hk

/-- Columns before the pieces are as they were. -/
theorem xs_old {sp : Space} (v : View sig .tc sp S3x2048x2048 .bf16) (f : v.ty.Contents V) {o1 o2 o3 o4 o5 o6 o7 o8 o9 o10 o11 o12 : Fin 3 → ℕ} (p : ℕ)
    (h1 : ∀ a, o1 a + S1x512x256.size a ≤ S3x2048x2048.size a) (w1 : S1x512x256.Idx → V .bf16)
    (h2 : ∀ a, o2 a + S1x512x256.size a ≤ S3x2048x2048.size a) (w2 : S1x512x256.Idx → V .bf16)
    (h3 : ∀ a, o3 a + S1x512x256.size a ≤ S3x2048x2048.size a) (w3 : S1x512x256.Idx → V .bf16)
    (h4 : ∀ a, o4 a + S1x512x256.size a ≤ S3x2048x2048.size a) (w4 : S1x512x256.Idx → V .bf16)
    (h5 : ∀ a, o5 a + S1x512x256.size a ≤ S3x2048x2048.size a) (w5 : S1x512x256.Idx → V .bf16)
    (h6 : ∀ a, o6 a + S1x512x256.size a ≤ S3x2048x2048.size a) (w6 : S1x512x256.Idx → V .bf16)
    (h7 : ∀ a, o7 a + S1x512x256.size a ≤ S3x2048x2048.size a) (w7 : S1x512x256.Idx → V .bf16)
    (h8 : ∀ a, o8 a + S1x512x256.size a ≤ S3x2048x2048.size a) (w8 : S1x512x256.Idx → V .bf16)
    (h9 : ∀ a, o9 a + S1x512x256.size a ≤ S3x2048x2048.size a) (w9 : S1x512x256.Idx → V .bf16)
    (h10 : ∀ a, o10 a + S1x512x256.size a ≤ S3x2048x2048.size a) (w10 : S1x512x256.Idx → V .bf16)
    (h11 : ∀ a, o11 a + S1x512x256.size a ≤ S3x2048x2048.size a) (w11 : S1x512x256.Idx → V .bf16)
    (h12 : ∀ a, o12 a + S1x512x256.size a ≤ S3x2048x2048.size a) (w12 : S1x512x256.Idx → V .bf16)
    (e1 : o1 = ![0, 0, p]) (e2 : o2 = ![1, 0, p]) (e3 : o3 = ![2, 0, p]) (e4 : o4 = ![0, 512, p]) (e5 : o5 = ![1, 512, p]) (e6 : o6 = ![2, 512, p]) (e7 : o7 = ![0, 1024, p]) (e8 : o8 = ![1, 1024, p]) (e9 : o9 = ![2, 1024, p]) (e10 : o10 = ![0, 1536, p]) (e11 : o11 = ![1, 1536, p]) (e12 : o12 = ![2, 1536, p])
    (a : Fin 3) (j k : Fin 2048) (hk : k.val < p) :
    v.read V (v.writes V f [⟨Rect.unit o12 S1x512x256.size h12, w12⟩, ⟨Rect.unit o11 S1x512x256.size h11, w11⟩, ⟨Rect.unit o10 S1x512x256.size h10, w10⟩, ⟨Rect.unit o9 S1x512x256.size h9, w9⟩, ⟨Rect.unit o8 S1x512x256.size h8, w8⟩, ⟨Rect.unit o7 S1x512x256.size h7, w7⟩, ⟨Rect.unit o6 S1x512x256.size h6, w6⟩, ⟨Rect.unit o5 S1x512x256.size h5, w5⟩, ⟨Rect.unit o4 S1x512x256.size h4, w4⟩, ⟨Rect.unit o3 S1x512x256.size h3, w3⟩, ⟨Rect.unit o2 S1x512x256.size h2, w2⟩, ⟨Rect.unit o1 S1x512x256.size h1, w1⟩]) (ix3 a j k) = v.read V f (ix3 a j k) := by
  refine (View.read_writes_cons_unit_of_not_mem _ _ _ _ _ _ e12 2 ?_).trans ?_
  · exact Or.inl hk
  refine (View.read_writes_cons_unit_of_not_mem _ _ _ _ _ _ e11 2 ?_).trans ?_
  · exact Or.inl hk
  refine (View.read_writes_cons_unit_of_not_mem _ _ _ _ _ _ e10 2 ?_).trans ?_
  · exact Or.inl hk
  refine (View.read_writes_cons_unit_of_not_mem _ _ _ _ _ _ e9 2 ?_).trans ?_
  · exact Or.inl hk
  refine (View.read_writes_cons_unit_of_not_mem _ _ _ _ _ _ e8 2 ?_).trans ?_
  · exact Or.inl hk
  refine (View.read_writes_cons_unit_of_not_mem _ _ _ _ _ _ e7 2 ?_).trans ?_
  · exact Or.inl hk
  refine (View.read_writes_cons_unit_of_not_mem _ _ _ _ _ _ e6 2 ?_).trans ?_
  · exact Or.inl hk
  refine (View.read_writes_cons_unit_of_not_mem _ _ _ _ _ _ e5 2 ?_).trans ?_
  · exact Or.inl hk
  refine (View.read_writes_cons_unit_of_not_mem _ _ _ _ _ _ e4 2 ?_).trans ?_
  · exact Or.inl hk
  refine (View.read_writes_cons_unit_of_not_mem _ _ _ _ _ _ e3 2 ?_).trans ?_
  · exact Or.inl hk
  refine (View.read_writes_cons_unit_of_not_mem _ _ _ _ _ _ e2 2 ?_).trans ?_
  · exact Or.inl hk
  refine (View.read_writes_cons_unit_of_not_mem _ _ _ _ _ _ e1 2 ?_).trans ?_
  · exact Or.inl hk
  rfl

end Cert.PowerGramIdeal.Math

end
-- ==== Proof.PowerGramIdeal.PointA.lean ====
/-
  What an even step below 16 leaves in the scratch: the row block itself in the last third of the split, and zero in the
  partial product.
-/
module

public import proofs.«01_k».proof.Proof.PowerGramIdeal.Reads

@[expose] public section

set_option maxRecDepth 16384

noncomputable section

open Idealize.ShloMosaic Idealize.ShloMosaic.TcCoe Idealize.SL.Sem

namespace Cert.PowerGramIdeal.Math

open Cert.PowerGramIdeal Cert.PowerGramIdeal.Gen

variable (c : Dev nD) (t : Fin cfg0.N) (h1 : cond1 (grid0.coords t)) (h2 : ¬ k0_cond2 (grid0.coords t) = 1#1) (h3 : ¬ k0_cond3 (grid0.coords t) = 1#1) (h4 : ¬ k0_cond4 (grid0.coords t) = 1#1) (h5 : ¬ k0_cond5 (grid0.coords t) = 1#1)
  (x2 : Vec Ideal S1x256x2048 .f32) (x3 : Vec Ideal S1x2048x2048 .bf16) (a : Vec Ideal S256x6144 .bf16) (d : Vec Ideal S256x2048 .f32)

/-- The row block as the load of its whole buffer gives it. -/
theorem ldA (M : Memref sig .tc .vmem S1x256x2048 .f32) (h : M.IsWhole) (r : Fin 256) (k : Fin 2048) :
    View.readAt (Elt Ideal) M.view (Rect.unit ![0, 0, 0] S1x256x2048.size inb_S1x256x2048_S1x256x2048_0_0_0).toLoadRect (h.unread x2) (ix3 0 r k) = x2 (ix3 0 r k) :=
  rd_unread M h x2 _ _ _ rfl fun a => by
    fin_cases a
    · rfl
    · exact (Nat.zero_add _).symm
    · exact (Nat.zero_add _).symm

theorem ssA_apply (r : Fin 256) (k : Fin 2048) :
    ssA c t h1 h2 h3 h4 h5 x2 x3 a d (ix2 r ⟨4096 + k.val, by omega⟩) = x2 (ix3 0 r k) := by
  unfold ssA
  refine (ss_read2 sc0.view _ _ _ _ _ _ _ r k).trans ?_
  exact (pay15_apply _ r k).trans (ldA x2 (ms0 t) (hs0 t) r k)

/-- The first two thirds of the split, read back, are zero. -/
theorem thirds (M : Memref sig .tc .vmem S1x256x2048 .f32) (h : M.IsWhole) (N : Memref sig .tc .vmem S256x6144 .bf16)
    (hx : ∀ (r : Fin 256) (k : Fin 2048), IsReal (x2 (ix3 0 r k))) (r : Fin 256) (k : Fin 4096) :
    runA.sl.v87 c M h N x2 (ix2 r k) = (0 : EReal) := by
  have hx' : ∀ (r : Fin 256) (k : Fin 2048), IsReal (View.readAt (Elt Ideal) M.view (Rect.unit ![0, 0, 0] S1x256x2048.size inb_S1x256x2048_S1x256x2048_0_0_0).toLoadRect (h.unread x2) (ix3 0 r k)) :=
    fun r k => by rw [ldA x2 M h r k]; exact hx r k
  by_cases hk : k.val < 2048
  · refine Eq.trans (congrArg (N.view.read (Elt Ideal) _) (?_ : _ = ix2 r ⟨0 + k.val, by omega⟩)) ((ss_read0 N.view _ _ _ _ _ _ _ r ⟨k.val, hk⟩).trans ?_)
    · funext a
      fin_cases a
      · exact Fin.ext (by show 0 + 1 * r.val = r.val; omega)
      · exact Fin.ext (by show 0 + 1 * k.val = 0 + k.val; omega)
    · exact pay13_apply _ r _ (hx' _ _)
  · refine Eq.trans (congrArg (N.view.read (Elt Ideal) _) (?_ : _ = ix2 r ⟨2048 + (k.val - 2048), by omega⟩)) ((ss_read1 N.view _ _ _ _ _ _ _ r ⟨k.val - 2048, by omega⟩).trans ?_)
    · funext a
      fin_cases a
      · exact Fin.ext (by show 0 + 1 * r.val = r.val; omega)
      · exact Fin.ext (by show 0 + 1 * k.val = 2048 + (k.val - 2048); omega)
    · exact pay14_apply _ r _ (hx' _ _)

theorem tmpA_apply (hx : ∀ (r : Fin 256) (k : Fin 2048), IsReal (x2 (ix3 0 r k))) (r : Fin 256) (l : Fin 2048) :
    tmpA c t h1 h2 h3 h4 h5 x2 x3 a d (ix2 r l) = (0 : EReal) := by
  unfold tmpA
  have hv := thirds c x2 (ms0 t) (hs0 t) sc0 hx
  by_cases a1 : l.val < 512
  · rw [show l = ⟨0 + (⟨l.val, a1⟩ : Fin 512).val, by omega⟩ from Fin.ext (Nat.zero_add _).symm]
    exact (tmp_read0 sc2.view _ _ _ _ _ _ _ _ _ r _).trans (pay16_apply _ _ r _ (hv r))
  by_cases a2 : l.val < 1024
  · rw [show l = ⟨512 + (⟨l.val - 512, by omega⟩ : Fin 512).val, by show 512 + (l.val - 512) < 2048; omega⟩ from Fin.ext (by show l.val = 512 + (l.val - 512); omega)]
    exact (tmp_read1 sc2.view _ _ _ _ _ _ _ _ _ r _).trans (pay16_apply _ _ r _ (hv r))
  by_cases a3 : l.val < 1536
  · rw [show l = ⟨1024 + (⟨l.val - 1024, by omega⟩ : Fin 512).val, by show 1024 + (l.val - 1024) < 2048; omega⟩ from Fin.ext (by show l.val = 1024 + (l.val - 1024); omega)]
    exact (tmp_read2 sc2.view _ _ _ _ _ _ _ _ _ r _).trans (pay16_apply _ _ r _ (hv r))
  · rw [show l = ⟨1536 + (⟨l.val - 1536, by omega⟩ : Fin 512).val, by show 1536 + (l.val - 1536) < 2048; omega⟩ from Fin.ext (by show l.val = 1536 + (l.val - 1536); omega)]
    exact (tmp_read3 sc2.view _ _ _ _ _ _ _ _ _ r _).trans (pay16_apply _ _ r _ (hv r))

end Cert.PowerGramIdeal.Math

end
-- ==== Proof.PowerGramIdeal.Offsets.lean ====
/-
  Where the points of the grid read and write: the offsets within the kept parts, and the blocks the windows place.
-/
module

public import proofs.«01_k».proof.Proof.PowerGramIdeal.Reads

@[expose] public section

set_option maxRecDepth 16384

noncomputable section

open Idealize.ShloMosaic Idealize.ShloMosaic.TcCoe Idealize.SL.Sem

namespace Cert.PowerGramIdeal.Math

open Cert.PowerGramIdeal Cert.PowerGramIdeal.Gen

/-- The row of superblocks of step `s`, and the column. -/
def srow (s : ℕ) : ℕ := if 22 ≤ s then 3 else if 19 ≤ s then 2 else if 17 ≤ s then 1 else 0
def scol (s : ℕ) : ℕ := if 22 ≤ s then s - 22 else if 19 ≤ s then s - 19 else if 17 ≤ s then s - 17 else 0

theorem srow_lt (s : ℕ) : srow s ≤ 3 := by unfold srow; split_ifs <;> omega
theorem scol_lt (s : ℕ) (h : s < 26) : scol s ≤ 3 := by unfold scol; split_ifs <;> omega

theorem off1 : ∀ t : Fin cfg0.N, t.val % 26 < 16 → k0_off1 (grid0.coords t) = ![0, 0, 256 * (t.val % 26 / 2)] :=
  (by decide +kernel : ∀ t : Fin grid0.N, _)
theorem off2 : ∀ t : Fin cfg0.N, t.val % 26 < 16 → k0_off2 (grid0.coords t) = ![1, 0, 256 * (t.val % 26 / 2)] :=
  (by decide +kernel : ∀ t : Fin grid0.N, _)
theorem off3 : ∀ t : Fin cfg0.N, t.val % 26 < 16 → k0_off3 (grid0.coords t) = ![2, 0, 256 * (t.val % 26 / 2)] :=
  (by decide +kernel : ∀ t : Fin grid0.N, _)
theorem off4 : ∀ t : Fin cfg0.N, t.val % 26 < 16 → k0_off4 (grid0.coords t) = ![0, 512, 256 * (t.val % 26 / 2)] :=
  (by decide +kernel : ∀ t : Fin grid0.N, _)
theorem off5 : ∀ t : Fin cfg0.N, t.val % 26 < 16 → k0_off5 (grid0.coords t) = ![1, 512, 256 * (t.val % 26 / 2)] :=
  (by decide +kernel : ∀ t : Fin grid0.N, _)
theorem off6 : ∀ t : Fin cfg0.N, t.val % 26 < 16 → k0_off6 (grid0.coords t) = ![2, 512, 256 * (t.val % 26 / 2)] :=
  (by decide +kernel : ∀ t : Fin grid0.N, _)
theorem off7 : ∀ t : Fin cfg0.N, t.val % 26 < 16 → k0_off7 (grid0.coords t) = ![0, 1024, 256 * (t.val % 26 / 2)] :=
  (by decide +kernel : ∀ t : Fin grid0.N, _)
theorem off8 : ∀ t : Fin cfg0.N, t.val % 26 < 16 → k0_off8 (grid0.coords t) = ![1, 1024, 256 * (t.val % 26 / 2)] :=
  (by decide +kernel : ∀ t : Fin grid0.N, _)
theorem off9 : ∀ t : Fin cfg0.N, t.val % 26 < 16 → k0_off9 (grid0.coords t) = ![2, 1024, 256 * (t.val % 26 / 2)] :=
  (by decide +kernel : ∀ t : Fin grid0.N, _)
theorem off10 : ∀ t : Fin cfg0.N, t.val % 26 < 16 → k0_off10 (grid0.coords t) = ![0, 1536, 256 * (t.val % 26 / 2)] :=
  (by decide +kernel : ∀ t : Fin grid0.N, _)
theorem off11 : ∀ t : Fin cfg0.N, t.val % 26 < 16 → k0_off11 (grid0.coords t) = ![1, 1536, 256 * (t.val % 26 / 2)] :=
  (by decide +kernel : ∀ t : Fin grid0.N, _)
theorem off12 : ∀ t : Fin cfg0.N, t.val % 26 < 16 → k0_off12 (grid0.coords t) = ![2, 1536, 256 * (t.val % 26 / 2)] :=
  (by decide +kernel : ∀ t : Fin grid0.N, _)
theorem off13 : ∀ t : Fin cfg0.N, 16 ≤ t.val % 26 → k0_off13 (grid0.coords t) = ![0, 512 * srow (t.val % 26), 0] :=
  (by decide +kernel : ∀ t : Fin grid0.N, _)
theorem off14 : ∀ t : Fin cfg0.N, 16 ≤ t.val % 26 → k0_off14 (grid0.coords t) = ![1, 512 * srow (t.val % 26), 0] :=
  (by decide +kernel : ∀ t : Fin grid0.N, _)
theorem off15 : ∀ t : Fin cfg0.N, 16 ≤ t.val % 26 → k0_off15 (grid0.coords t) = ![2, 512 * srow (t.val % 26), 0] :=
  (by decide +kernel : ∀ t : Fin grid0.N, _)
theorem off16 : ∀ t : Fin cfg0.N, 16 ≤ t.val % 26 → k0_off16 (grid0.coords t) = ![0, 512 * scol (t.val % 26), 0] :=
  (by decide +kernel : ∀ t : Fin grid0.N, _)
theorem off17 : ∀ t : Fin cfg0.N, 16 ≤ t.val % 26 → k0_off17 (grid0.coords t) = ![1, 512 * scol (t.val % 26), 0] :=
  (by decide +kernel : ∀ t : Fin grid0.N, _)
theorem off18 : ∀ t : Fin cfg0.N, 16 ≤ t.val % 26 → k0_off18 (grid0.coords t) = ![2, 512 * scol (t.val % 26), 0] :=
  (by decide +kernel : ∀ t : Fin grid0.N, _)
theorem off19 : ∀ t : Fin cfg0.N, 16 ≤ t.val % 26 → k0_off19 (grid0.coords t) = ![0, 512 * srow (t.val % 26), 0] :=
  (by decide +kernel : ∀ t : Fin grid0.N, _)
theorem off20 : ∀ t : Fin cfg0.N, 16 ≤ t.val % 26 → k0_off20 (grid0.coords t) = ![1, 512 * srow (t.val % 26), 0] :=
  (by decide +kernel : ∀ t : Fin grid0.N, _)
theorem off21 : ∀ t : Fin cfg0.N, 16 ≤ t.val % 26 → k0_off21 (grid0.coords t) = ![2, 512 * srow (t.val % 26), 0] :=
  (by decide +kernel : ∀ t : Fin grid0.N, _)
theorem off22 : ∀ t : Fin cfg0.N, 16 ≤ t.val % 26 → k0_off22 (grid0.coords t) = ![0, 512 * srow (t.val % 26), 0] :=
  (by decide +kernel : ∀ t : Fin grid0.N, _)
theorem off23 : ∀ t : Fin cfg0.N, 16 ≤ t.val % 26 → k0_off23 (grid0.coords t) = ![0, 512 * scol (t.val % 26), 0] :=
  (by decide +kernel : ∀ t : Fin grid0.N, _)

/-- Where the index maps point. -/
theorem idxFacts : ∀ t : Fin cfg0.N,
    (win0_0.index t (0 : Fin 3) = t.val / 26 ∧ win0_0.index t (1 : Fin 3) = min (t.val % 26 / 2) 7 ∧ win0_0.index t (2 : Fin 3) = 0)
    ∧ (win0_1.index t (0 : Fin 3) = t.val / 26 ∧ win0_1.index t (1 : Fin 3) = 0 ∧ win0_1.index t (2 : Fin 3) = 0)
    ∧ (win0_2.index t (0 : Fin 3) = t.val / 26 ∧ win0_2.index t (1 : Fin 3) = 0 ∧ win0_2.index t (2 : Fin 3) = min (t.val % 26 / 2) 7)
    ∧ (win0_3.index t (0 : Fin 3) = t.val / 26 ∧ win0_3.index t (1 : Fin 3) = 3 - srow (t.val % 26) ∧ win0_3.index t (2 : Fin 3) = scol (t.val % 26)) :=
  (by decide +kernel : ∀ t : Fin grid0.N, _)

variable (m : (ℓ : Loc nD τ sig) → Buf (Elt Ideal) ℓ)

/-- The two arguments, by their contents. -/
abbrev A0 (c : Dev nD) : FVec Ideal S12x2048x2048 .f32 := m ((c : Thread nD τ).loc main_arg0)
abbrev A1 (c : Dev nD) : FVec Ideal S12x2048x2048 .bf16 := m ((c : Thread nD τ).loc main_arg1)

/-- The batch of a point. -/
abbrev bat (n : ℕ) : Fin 12 := ⟨n / 26 % 12, Nat.mod_lt _ (by omega)⟩

theorem lt_N (t : Fin cfg0.N) : t.val < 312 := t.isLt

theorem bat_val (t : Fin cfg0.N) : (bat t.val).val = t.val / 26 := by
  have := lt_N t
  show t.val / 26 % 12 = _
  omega

theorem iblk0 (c : Dev nD) (t : Fin cfg0.N) (r : Fin 256) (k : Fin 2048) :
    iblk m c 0 t (ix3 0 r k) = A0 m c (ix3 (bat t.val) ⟨256 * min (t.val % 26 / 2) 7 + r.val, by omega⟩ k) := by
  blk_ext [iblk, V, idxFacts t, bat_val t]

theorem iblk1 (c : Dev nD) (t : Fin cfg0.N) (k j : Fin 2048) :
    iblk m c 1 t (ix3 0 k j) = A1 m c (ix3 (bat t.val) k j) := by
  blk_ext [iblk, V, idxFacts t, bat_val t]

end Cert.PowerGramIdeal.Math

end
-- ==== Proof.PowerGramIdeal.PointB.lean ====
/-
  What an odd step below 16 leaves: the finished column block of the product in its output block, and in the kept parts the
  block and two blocks of zeros.
-/
module

public import proofs.«01_k».proof.Proof.PowerGramIdeal.Offsets

@[expose] public section

set_option maxRecDepth 16384

noncomputable section

open Idealize.ShloMosaic Idealize.ShloMosaic.TcCoe Idealize.SL.Sem

namespace Cert.PowerGramIdeal.Math

open Cert.PowerGramIdeal Cert.PowerGramIdeal.Gen

/-- The product of the row block kept in the last third of the split and the second factor, at an index. -/
def pv (a : Vec Ideal S256x6144 .bf16) (x3 : Vec Ideal S1x2048x2048 .bf16) (r : Fin 256) (l : Fin 2048) : EReal :=
  ∑ k : Fin 2048, a (ix2 r ⟨4096 + k.val, by omega⟩) * x3 (ix3 0 k l)

theorem real_of {u v : EReal} (e : u = v) (h : IsReal v) : IsReal u := e ▸ h

/-- A load of a chunk of columns of the partial product. -/
theorem ld_d (M : Memref sig .tc .vmem S256x2048 .f32) (h : M.IsWhole) (d : Vec Ideal S256x2048 .f32) (o : ℕ) (ho : o ≤ 1536)
    (inb : ∀ a, (![0, o] : Fin 2 → ℕ) a + S256x512.size a ≤ S256x2048.size a) (r : Fin 256) (j : Fin 512) :
    View.readAt (Elt Ideal) M.view (Rect.unit (s := S256x2048) ![0, o] S256x512.size inb).toLoadRect (h.unread d) (ix2 r j) = d (ix2 r ⟨o + j.val, by omega⟩) :=
  rd_unread M h d inb _ _ rfl fun a => by
    fin_cases a
    · exact (Nat.zero_add _).symm
    · rfl

/-- A load of the last third of the split. -/
theorem ld_a (M : Memref sig .tc .vmem S256x6144 .bf16) (h : M.IsWhole) (a : Vec Ideal S256x6144 .bf16)
    (inb : ∀ i, (![0, 4096] : Fin 2 → ℕ) i + S256x2048.size i ≤ S256x6144.size i) (r : Fin 256) (k : Fin 2048) :
    View.readAt (Elt Ideal) M.view (Rect.unit (s := S256x6144) ![0, 4096] S256x2048.size inb).toLoadRect (h.unread a) (ix2 r k) = a (ix2 r ⟨4096 + k.val, by omega⟩) :=
  rd_unread M h a inb _ _ rfl fun i => by
    fin_cases i
    · exact (Nat.zero_add _).symm
    · rfl

/-- A load of a chunk of columns of the second factor. -/
theorem ld_q (M : Memref sig .tc .vmem S1x2048x2048 .bf16) (h : M.IsWhole) (x3 : Vec Ideal S1x2048x2048 .bf16) (o : ℕ) (ho : o ≤ 1536)
    (inb : ∀ a, (![0, 0, o] : Fin 3 → ℕ) a + S1x2048x512.size a ≤ S1x2048x2048.size a) (k : Fin 2048) (j : Fin 512) :
    View.readAt (Elt Ideal) M.view (Rect.unit (s := S1x2048x2048) ![0, 0, o] S1x2048x512.size inb).toLoadRect (h.unread x3) (ix3 0 k j) = x3 (ix3 0 k ⟨o + j.val, by omega⟩) :=
  rd_unread M h x3 inb _ _ rfl fun a => by
    fin_cases a
    · rfl
    · exact (Nat.zero_add _).symm
    · rfl

/-- A chunk of the product from the three loads. -/
theorem chunk (M8 : Memref sig .tc .vmem S256x2048 .f32) (h8 : M8.IsWhole) (M6 : Memref sig .tc .vmem S256x6144 .bf16) (h6 : M6.IsWhole)
    (M3 : Memref sig .tc .vmem S1x2048x2048 .bf16) (h3 : M3.IsWhole) (x3 : Vec Ideal S1x2048x2048 .bf16) (a : Vec Ideal S256x6144 .bf16) (d : Vec Ideal S256x2048 .f32)
    (hd : ∀ (r : Fin 256) (l : Fin 2048), d (ix2 r l) = (0 : EReal)) (o : ℕ) (ho : o ≤ 1536)
    (i8 : ∀ a, (![0, o] : Fin 2 → ℕ) a + S256x512.size a ≤ S256x2048.size a)
    (i6 : ∀ i, (![0, 4096] : Fin 2 → ℕ) i + S256x2048.size i ≤ S256x6144.size i)
    (i3 : ∀ a, (![0, 0, o] : Fin 3 → ℕ) a + S1x2048x512.size a ≤ S1x2048x2048.size a) (j : Fin 512) (r : Fin 256) :
    k0_pay17 (View.readAt (Elt Ideal) M8.view (Rect.unit (s := S256x2048) ![0, o] S256x512.size i8).toLoadRect (h8.unread d))
      (View.readAt (Elt Ideal) M6.view (Rect.unit (s := S256x6144) ![0, 4096] S256x2048.size i6).toLoadRect (h6.unread a))
      (View.readAt (Elt Ideal) M3.view (Rect.unit (s := S1x2048x2048) ![0, 0, o] S1x2048x512.size i3).toLoadRect (h3.unread x3)) (ix2 j r)
      = pv a x3 r ⟨o + j.val, by omega⟩ := by
  rw [pay17_apply, ld_d M8 h8 d o ho, hd, zero_add]
  exact Finset.sum_congr rfl fun k _ => congrArg₂ (· * ·) (ld_a M6 h6 a _ r k) (ld_q M3 h3 x3 o ho _ k j)

/-! ## The stored parts, each as a function of its chunk of the product -/

section Same
variable (d : Vec Ideal S256x512 .f32) (a : Vec Ideal S256x2048 .bf16) (q : Vec Ideal S1x2048x512 .bf16)

theorem e18 : k0_pay18 d a q = k0_pay46 (k0_pay17 d a q) := rfl
theorem e26 : k0_pay26 d a q = k0_pay46 (k0_pay17 d a q) := rfl
theorem e35 : k0_pay35 d a (k0_pay33 q) = k0_pay46 (k0_pay17 d a q) := rfl
theorem e22 : k0_pay22 d a q = k0_pay50 (k0_pay17 d a q) := rfl
theorem e23 : k0_pay23 d a q = k0_pay51 (k0_pay17 d a q) := rfl
theorem e24 : k0_pay24 d a q = k0_pay52 (k0_pay17 d a q) := rfl
theorem e30 : k0_pay30 d a q = k0_pay50 (k0_pay17 d a q) := rfl
theorem e31 : k0_pay31 d a q = k0_pay51 (k0_pay17 d a q) := rfl
theorem e32 : k0_pay32 d a q = k0_pay52 (k0_pay17 d a q) := rfl
theorem e39 : k0_pay39 d a (k0_pay33 q) = k0_pay50 (k0_pay17 d a q) := rfl
theorem e40 : k0_pay40 d a (k0_pay33 q) = k0_pay51 (k0_pay17 d a q) := rfl
theorem e41 : k0_pay41 d a (k0_pay33 q) = k0_pay52 (k0_pay17 d a q) := rfl
theorem e42 : k0_pay42 d a q = k0_pay17 d a q := rfl

end Same

section Parts
variable (v : FVec Ideal S512x256 .f32) (j : Fin 512) (r : Fin 256)

theorem whole : k0_pay46 v (ix3 0 j r) = v (ix2 j r) := by
  pointwise [k0_pay46]

theorem part0 : k0_pay50 v (ix3 0 j r) = v (ix2 j r) := by
  pointwise [k0_pay50, k0_pay47]

theorem part48 (h : IsReal (v (ix2 j r))) : k0_pay48 v (ix2 j r) = (0 : EReal) :=
  (show k0_pay48 v (ix2 j r) = v (ix2 j r) - v (ix2 j r) by pointwise [k0_pay48, k0_pay47]).trans h.sub_self

theorem part1 (h : IsReal (v (ix2 j r))) : k0_pay51 v (ix3 0 j r) = (0 : EReal) :=
  (show k0_pay51 v (ix3 0 j r) = k0_pay48 v (ix2 j r) by pointwise [k0_pay51, k0_pay49]).trans (part48 v j r h)

theorem part2 (h : IsReal (v (ix2 j r))) : k0_pay52 v (ix3 0 j r) = (0 : EReal) :=
  (show k0_pay52 v (ix3 0 j r) = k0_pay48 v (ix2 j r) - k0_pay48 v (ix2 j r) by pointwise [k0_pay52, k0_pay49]).trans
    (by rw [part48 v j r h, IsReal.zero.sub_self])

end Parts

/-- A column of the product lies in one of the four chunks. -/
theorem chunk_cases {p : Fin 2048 → Prop} (h0 : ∀ j : Fin 512, p ⟨0 + j.val, by omega⟩) (h1 : ∀ j : Fin 512, p ⟨512 + j.val, by omega⟩)
    (h2 : ∀ j : Fin 512, p ⟨1024 + j.val, by omega⟩) (h3 : ∀ j : Fin 512, p ⟨1536 + j.val, by omega⟩) (l : Fin 2048) : p l := by
  by_cases a1 : l.val < 512
  · exact (Fin.ext (Nat.zero_add _) : (⟨0 + (⟨l.val, a1⟩ : Fin 512).val, by omega⟩ : Fin 2048) = l) ▸ h0 ⟨l.val, a1⟩
  by_cases a2 : l.val < 1024
  · have e : (⟨512 + (⟨l.val - 512, by omega⟩ : Fin 512).val, by show 512 + (l.val - 512) < 2048; omega⟩ : Fin 2048) = l := Fin.ext (by show 512 + (l.val - 512) = l.val; omega)
    exact e ▸ h1 ⟨l.val - 512, by omega⟩
  by_cases a3 : l.val < 1536
  · have e : (⟨1024 + (⟨l.val - 1024, by omega⟩ : Fin 512).val, by show 1024 + (l.val - 1024) < 2048; omega⟩ : Fin 2048) = l := Fin.ext (by show 1024 + (l.val - 1024) = l.val; omega)
    exact e ▸ h2 ⟨l.val - 1024, by omega⟩
  · have e : (⟨1536 + (⟨l.val - 1536, by omega⟩ : Fin 512).val, by show 1536 + (l.val - 1536) < 2048; omega⟩ : Fin 2048) = l := Fin.ext (by show 1536 + (l.val - 1536) = l.val; omega)
    exact e ▸ h3 ⟨l.val - 1536, by omega⟩

variable (c : Dev nD) (t : Fin cfg0.N) (h1 : ¬ cond1 (grid0.coords t)) (h2 : k0_cond2 (grid0.coords t) = 1#1) (h3 : ¬ k0_cond3 (grid0.coords t) = 1#1) (h4 : ¬ k0_cond4 (grid0.coords t) = 1#1) (h5 : ¬ k0_cond5 (grid0.coords t) = 1#1)
  (x3 : Vec Ideal S1x2048x2048 .bf16) (y : Vec Ideal S1x2048x256 .f32) (a : Vec Ideal S256x6144 .bf16) (b : Vec Ideal S3x2048x2048 .bf16) (d : Vec Ideal S256x2048 .f32)
  (hd : ∀ (r : Fin 256) (l : Fin 2048), d (ix2 r l) = (0 : EReal))

include hd

/-- The output block: the product, transposed. -/
theorem xB_apply (l : Fin 2048) (r : Fin 256) : xB c t h1 h2 h3 h4 h5 x3 y a b d (ix3 0 l r) = pv a x3 r l := by
  unfold xB
  refine chunk_cases (p := fun l => (ms2 t).view.read (Elt Ideal) _ (ix3 0 l r) = pv a x3 r l) (fun j => ?_) (fun j => ?_) (fun j => ?_) (fun j => ?_) l
  · refine (x_read0 (ms2 t).view _ _ _ _ _ _ _ _ _ j r).trans ?_
    exact (congrFun (e18 _ _ _) (ix3 0 j r)).trans ((whole _ j r).trans (chunk sc2 hsc2 sc0 hsc0 (ms1 t) (hs1 t) x3 a d hd 0 (by omega) _ _ _ j r))
  · refine (x_read1 (ms2 t).view _ _ _ _ _ _ _ _ _ j r).trans ?_
    exact (congrFun (e26 _ _ _) (ix3 0 j r)).trans ((whole _ j r).trans (chunk sc2 hsc2 sc0 hsc0 (ms1 t) (hs1 t) x3 a d hd 512 (by omega) _ _ _ j r))
  · refine (x_read2 (ms2 t).view _ _ _ _ _ _ _ _ _ j r).trans ?_
    exact (congrFun (e35 _ _ _) (ix3 0 j r)).trans ((whole _ j r).trans (chunk sc2 hsc2 sc0 hsc0 (ms1 t) (hs1 t) x3 a d hd 1024 (by omega) _ _ _ j r))
  · refine (x_read3 (ms2 t).view _ _ _ _ _ _ _ _ _ j r).trans ?_
    exact ((whole _ j r).trans ((congrFun (e42 _ _ _) (ix2 j r)).trans (chunk sc2 hsc2 sc0 hsc0 (ms1 t) (hs1 t) x3 a d hd 1536 (by omega) _ _ _ j r)))

/-- Part 0 of the kept parts, at the columns of this step: the product. -/
theorem xsB_new0 (ht : t.val % 26 < 16) (hr : ∀ (r : Fin 256) (l : Fin 2048), IsReal (pv a x3 r l)) (l : Fin 2048) (r : Fin 256) (k : Fin 2048) (hk : k.val = 256 * (t.val % 26 / 2) + r.val) :
    xsB c t h1 h2 h3 h4 h5 x3 y a b d (ix3 0 l k) = pv a x3 r l := by
  unfold xsB
  refine chunk_cases (p := fun l => sc1.view.read (Elt Ideal) _ (ix3 0 l k) = pv a x3 r l) (fun j => ?_) (fun j => ?_) (fun j => ?_) (fun j => ?_) l
  · refine (xs_read1 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e22 _ _ _) (ix3 0 j r)).trans ((part0 _ j r).trans (chunk sc2 hsc2 sc0 hsc0 (ms1 t) (hs1 t) x3 a d hd 0 (by omega) _ _ _ j r))
  · refine (xs_read4 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e30 _ _ _) (ix3 0 j r)).trans ((part0 _ j r).trans (chunk sc2 hsc2 sc0 hsc0 (ms1 t) (hs1 t) x3 a d hd 512 (by omega) _ _ _ j r))
  · refine (xs_read7 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e39 _ _ _) (ix3 0 j r)).trans ((part0 _ j r).trans (chunk sc2 hsc2 sc0 hsc0 (ms1 t) (hs1 t) x3 a d hd 1024 (by omega) _ _ _ j r))
  · refine (xs_read10 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact ((part0 _ j r).trans ((congrFun (e42 _ _ _) (ix2 j r)).trans (chunk sc2 hsc2 sc0 hsc0 (ms1 t) (hs1 t) x3 a d hd 1536 (by omega) _ _ _ j r)))

/-- Part 1 of the kept parts, at the columns of this step: zeros. -/
theorem xsB_new1 (ht : t.val % 26 < 16) (hr : ∀ (r : Fin 256) (l : Fin 2048), IsReal (pv a x3 r l)) (l : Fin 2048) (r : Fin 256) (k : Fin 2048) (hk : k.val = 256 * (t.val % 26 / 2) + r.val) :
    xsB c t h1 h2 h3 h4 h5 x3 y a b d (ix3 1 l k) = (0 : EReal) := by
  unfold xsB
  refine chunk_cases (p := fun l => sc1.view.read (Elt Ideal) _ (ix3 1 l k) = (0 : EReal)) (fun j => ?_) (fun j => ?_) (fun j => ?_) (fun j => ?_) l
  · refine (xs_read2 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e23 _ _ _) (ix3 0 j r)).trans (part1 _ j r (real_of (chunk sc2 hsc2 sc0 hsc0 (ms1 t) (hs1 t) x3 a d hd 0 (by omega) _ _ _ j r) (hr _ _)))
  · refine (xs_read5 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e31 _ _ _) (ix3 0 j r)).trans (part1 _ j r (real_of (chunk sc2 hsc2 sc0 hsc0 (ms1 t) (hs1 t) x3 a d hd 512 (by omega) _ _ _ j r) (hr _ _)))
  · refine (xs_read8 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e40 _ _ _) (ix3 0 j r)).trans (part1 _ j r (real_of (chunk sc2 hsc2 sc0 hsc0 (ms1 t) (hs1 t) x3 a d hd 1024 (by omega) _ _ _ j r) (hr _ _)))
  · refine (xs_read11 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (part1 _ j r (real_of ((congrFun (e42 _ _ _) (ix2 j r)).trans (chunk sc2 hsc2 sc0 hsc0 (ms1 t) (hs1 t) x3 a d hd 1536 (by omega) _ _ _ j r)) (hr _ _)))

/-- Part 2 of the kept parts, at the columns of this step: zeros. -/
theorem xsB_new2 (ht : t.val % 26 < 16) (hr : ∀ (r : Fin 256) (l : Fin 2048), IsReal (pv a x3 r l)) (l : Fin 2048) (r : Fin 256) (k : Fin 2048) (hk : k.val = 256 * (t.val % 26 / 2) + r.val) :
    xsB c t h1 h2 h3 h4 h5 x3 y a b d (ix3 2 l k) = (0 : EReal) := by
  unfold xsB
  refine chunk_cases (p := fun l => sc1.view.read (Elt Ideal) _ (ix3 2 l k) = (0 : EReal)) (fun j => ?_) (fun j => ?_) (fun j => ?_) (fun j => ?_) l
  · refine (xs_read3 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e24 _ _ _) (ix3 0 j r)).trans (part2 _ j r (real_of (chunk sc2 hsc2 sc0 hsc0 (ms1 t) (hs1 t) x3 a d hd 0 (by omega) _ _ _ j r) (hr _ _)))
  · refine (xs_read6 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e32 _ _ _) (ix3 0 j r)).trans (part2 _ j r (real_of (chunk sc2 hsc2 sc0 hsc0 (ms1 t) (hs1 t) x3 a d hd 512 (by omega) _ _ _ j r) (hr _ _)))
  · refine (xs_read9 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (congrFun (e41 _ _ _) (ix3 0 j r)).trans (part2 _ j r (real_of (chunk sc2 hsc2 sc0 hsc0 (ms1 t) (hs1 t) x3 a d hd 1024 (by omega) _ _ _ j r) (hr _ _)))
  · refine (xs_read12 sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) j r k hk).trans ?_
    exact (part2 _ j r (real_of ((congrFun (e42 _ _ _) (ix2 j r)).trans (chunk sc2 hsc2 sc0 hsc0 (ms1 t) (hs1 t) x3 a d hd 1536 (by omega) _ _ _ j r)) (hr _ _)))

/-- The kept parts, at the columns of this step: the product, and zeros. -/
theorem xsB_new (ht : t.val % 26 < 16) (hr : ∀ (r : Fin 256) (l : Fin 2048), IsReal (pv a x3 r l)) (p : Fin 3) (l : Fin 2048) (r : Fin 256) (k : Fin 2048) (hk : k.val = 256 * (t.val % 26 / 2) + r.val) :
    xsB c t h1 h2 h3 h4 h5 x3 y a b d (ix3 p l k) = if p = 0 then pv a x3 r l else (0 : EReal) := by
  match p with
  | 0 => exact (xsB_new0 c t h1 h2 h3 h4 h5 x3 y a b d hd ht hr l r k hk).trans (if_pos rfl).symm
  | 1 => exact (xsB_new1 c t h1 h2 h3 h4 h5 x3 y a b d hd ht hr l r k hk).trans (if_neg (by decide)).symm
  | 2 => exact (xsB_new2 c t h1 h2 h3 h4 h5 x3 y a b d hd ht hr l r k hk).trans (if_neg (by decide)).symm

omit hd in
/-- The kept parts, at the columns of earlier steps: as they were. -/
theorem xsB_old (ht : t.val % 26 < 16) (p : Fin 3) (l k : Fin 2048) (hk : k.val < 256 * (t.val % 26 / 2)) :
    xsB c t h1 h2 h3 h4 h5 x3 y a b d (ix3 p l k) = b (ix3 p l k) := by
  unfold xsB
  exact (xs_old sc1.view _ _ _ _ _ _ _ _ _ _ _ _ _ _ _ _ _ _ _ _ _ _ _ _ _ _ (off1 t ht) (off2 t ht) (off3 t ht) (off4 t ht) (off5 t ht) (off6 t ht) (off7 t ht) (off8 t ht) (off9 t ht) (off10 t ht) (off11 t ht) (off12 t ht) p l k hk).trans (congrFun (hsc1.read_unread b) _)

end Cert.PowerGramIdeal.Math

end
-- ==== Proof.PowerGramIdeal.PointCD.lean ====
/-
  What a superblock step leaves in its block of the Gram matrix: the sums of products of the kept columns, the two halves of
  its rows exchanged.
-/
module

public import proofs.«01_k».proof.Proof.PowerGramIdeal.Offsets

@[expose] public section

set_option maxRecDepth 16384

noncomputable section

open Idealize.ShloMosaic Idealize.ShloMosaic.TcCoe Idealize.SL.Sem

namespace Cert.PowerGramIdeal.Math

open Cert.PowerGramIdeal Cert.PowerGramIdeal.Gen

/-- A load of a row block of one kept part. -/
theorem ld_xs (M : Memref sig .tc .vmem S3x2048x2048 .bf16) (h : M.IsWhole) (b : Vec Ideal S3x2048x2048 .bf16) (p : Fin 3) (w : ℕ) (hw : w ≤ 3) {off : Fin 3 → ℕ} (inb : ∀ a, off a + S1x512x2048.size a ≤ S3x2048x2048.size a)
    (heq : off = ![p.val, 512 * w, 0]) (i : Fin 512) (k : Fin 2048) :
    View.readAt (Elt Ideal) M.view (Rect.unit (s := S3x2048x2048) off S1x512x2048.size inb).toLoadRect (h.unread b) (ix3 0 i k) = b (ix3 p ⟨512 * w + i.val, by omega⟩ k) :=
  rd_unread M h b inb _ _ heq fun a => by
    fin_cases a
    · rfl
    · rfl
    · exact (Nat.zero_add _).symm

section C
variable (c : Dev nD) (t : Fin cfg0.N) (h1 : ¬ cond1 (grid0.coords t)) (h2 : ¬ k0_cond2 (grid0.coords t) = 1#1) (h3 : k0_cond3 (grid0.coords t) = 1#1) (h4 : ¬ k0_cond4 (grid0.coords t) = 1#1) (h5 : k0_cond5 (grid0.coords t) = 1#1)
  (y : Vec Ideal S1x512x512 .f32) (b : Vec Ideal S3x2048x2048 .bf16) (d : Vec Ideal S256x2048 .f32)
  (hz : ∀ (p : Fin 3) (j k : Fin 2048), p ≠ 0 → b (ix3 p j k) = (0 : EReal))

include hz

theorem sumC0 (M : Memref sig .tc .vmem S3x2048x2048 .bf16) (h : M.IsWhole) (N : Memref sig .tc .vmem S256x2048 .f32) (ht : 16 ≤ t.val % 26) (i : Fin 256) (j : Fin 512) :
    runC.sl.v66 c (grid0.coords t) M h N h3 b (ix2 i j) = (0 : EReal) := by
  have hs : t.val % 26 < 26 := Nat.mod_lt _ (by omega)
  refine Eq.trans (congrArg (N.view.read (Elt Ideal) _) (?_ : _ = ix2 i ⟨0 + j.val, by omega⟩)) ((sums_read0 N.view _ _ _ _ _ i j).trans ?_)
  · funext a
    fin_cases a
    · exact Fin.ext (by show 0 + 1 * i.val = i.val; omega)
    · exact Fin.ext (by show 0 + 1 * j.val = 0 + j.val; omega)
  · exact pay2_apply _ _ _ _ _ _ (fun i k => (ld_xs M h b 1 _ (srow_lt _) _ (off14 t ht) i k).trans (hz _ _ _ (by decide))) (fun i k => (ld_xs M h b 2 _ (srow_lt _) _ (off15 t ht) i k).trans (hz _ _ _ (by decide))) (fun i k => (ld_xs M h b 1 _ (scol_lt _ hs) _ (off17 t ht) i k).trans (hz _ _ _ (by decide))) (fun i k => (ld_xs M h b 2 _ (scol_lt _ hs) _ (off18 t ht) i k).trans (hz _ _ _ (by decide))) i j

theorem sumC1 (M : Memref sig .tc .vmem S3x2048x2048 .bf16) (h : M.IsWhole) (N : Memref sig .tc .vmem S256x2048 .f32) (ht : 16 ≤ t.val % 26) (i : Fin 256) (j : Fin 512) :
    runC.sl.v72 c (grid0.coords t) M h N h3 b (ix2 i j) = (0 : EReal) := by
  have hs : t.val % 26 < 26 := Nat.mod_lt _ (by omega)
  refine Eq.trans (congrArg (N.view.read (Elt Ideal) _) (?_ : _ = ix2 i ⟨512 + j.val, by omega⟩)) ((sums_read1 N.view _ _ _ _ _ i j).trans ?_)
  · funext a
    fin_cases a
    · exact Fin.ext (by show 0 + 1 * i.val = i.val; omega)
    · exact Fin.ext (by show 512 + 1 * j.val = 512 + j.val; omega)
  · exact pay3_apply _ _ _ _ _ _ (fun i k => (ld_xs M h b 1 _ (srow_lt _) _ (off14 t ht) i k).trans (hz _ _ _ (by decide))) (fun i k => (ld_xs M h b 2 _ (srow_lt _) _ (off15 t ht) i k).trans (hz _ _ _ (by decide))) (fun i k => (ld_xs M h b 1 _ (scol_lt _ hs) _ (off17 t ht) i k).trans (hz _ _ _ (by decide))) (fun i k => (ld_xs M h b 2 _ (scol_lt _ hs) _ (off18 t ht) i k).trans (hz _ _ _ (by decide))) i j

theorem gC0 (ht : 16 ≤ t.val % 26) (i : Fin 256) (j : Fin 512) :
    gC c t h1 h2 h3 h4 h5 y b d (ix3 0 ⟨0 + i.val, by omega⟩ j)
      = ∑ k : Fin 2048, b (ix3 0 ⟨512 * srow (t.val % 26) + (256 + i.val), by have := srow_lt (t.val % 26); omega⟩ k)
          * b (ix3 0 ⟨512 * scol (t.val % 26) + j.val, by have := scol_lt (t.val % 26) (Nat.mod_lt _ (by omega)); omega⟩ k) := by
  have hs : t.val % 26 < 26 := Nat.mod_lt _ (by omega)
  unfold gC
  refine (g_read0 (ms3 t).view _ _ _ _ _ i j).trans ((pay9_apply _ _ _ i j).trans ?_)
  refine (congrArg₂ (· + ·) (sumC1 c t h3 b hz sc1 hsc1 sc2 ht i j) (Finset.sum_congr rfl fun k _ => congrArg₂ (· * ·)
    (ld_xs sc1 hsc1 b 0 _ (srow_lt _) _ (off22 t ht) _ k) (ld_xs sc1 hsc1 b 0 _ (scol_lt _ hs) _ (off23 t ht) j k))).trans ?_
  rw [zero_add]

theorem gC1 (ht : 16 ≤ t.val % 26) (i : Fin 256) (j : Fin 512) :
    gC c t h1 h2 h3 h4 h5 y b d (ix3 0 ⟨256 + i.val, by omega⟩ j)
      = ∑ k : Fin 2048, b (ix3 0 ⟨512 * srow (t.val % 26) + (0 + i.val), by have := srow_lt (t.val % 26); omega⟩ k)
          * b (ix3 0 ⟨512 * scol (t.val % 26) + j.val, by have := scol_lt (t.val % 26) (Nat.mod_lt _ (by omega)); omega⟩ k) := by
  have hs : t.val % 26 < 26 := Nat.mod_lt _ (by omega)
  unfold gC
  refine (g_read1 (ms3 t).view _ _ _ _ _ i j).trans ((pay8_apply _ _ _ i j).trans ?_)
  refine (congrArg₂ (· + ·) (sumC0 c t h3 b hz sc1 hsc1 sc2 ht i j) (Finset.sum_congr rfl fun k _ => congrArg₂ (· * ·)
    (ld_xs sc1 hsc1 b 0 _ (srow_lt _) _ (off22 t ht) _ k) (ld_xs sc1 hsc1 b 0 _ (scol_lt _ hs) _ (off23 t ht) j k))).trans ?_
  rw [zero_add]
  simp only [zero_add]
end C

section D
variable (c : Dev nD) (t : Fin cfg0.N) (h1 : ¬ cond1 (grid0.coords t)) (h2 : ¬ k0_cond2 (grid0.coords t) = 1#1) (h3 : ¬ k0_cond3 (grid0.coords t) = 1#1) (h4 : k0_cond4 (grid0.coords t) = 1#1) (h5 : k0_cond5 (grid0.coords t) = 1#1)
  (y : Vec Ideal S1x512x512 .f32) (b : Vec Ideal S3x2048x2048 .bf16) (d : Vec Ideal S256x2048 .f32)
  (hz : ∀ (p : Fin 3) (j k : Fin 2048), p ≠ 0 → b (ix3 p j k) = (0 : EReal))

include hz

theorem sumD0 (M : Memref sig .tc .vmem S3x2048x2048 .bf16) (h : M.IsWhole) (N : Memref sig .tc .vmem S256x2048 .f32) (ht : 16 ≤ t.val % 26) (i : Fin 256) (j : Fin 512) :
    runD.sl.v66 c (grid0.coords t) M h N h4 b (ix2 i j) = (0 : EReal) := by
  have hs : t.val % 26 < 26 := Nat.mod_lt _ (by omega)
  refine Eq.trans (congrArg (N.view.read (Elt Ideal) _) (?_ : _ = ix2 i ⟨0 + j.val, by omega⟩)) ((sums_read0 N.view _ _ _ _ _ i j).trans ?_)
  · funext a
    fin_cases a
    · exact Fin.ext (by show 0 + 1 * i.val = i.val; omega)
    · exact Fin.ext (by show 0 + 1 * j.val = 0 + j.val; omega)
  · exact pay5_apply _ _ _ (fun i k => (ld_xs M h b 1 _ (srow_lt _) _ (off20 t ht) i k).trans (hz _ _ _ (by decide))) (fun i k => (ld_xs M h b 2 _ (srow_lt _) _ (off21 t ht) i k).trans (hz _ _ _ (by decide))) i j

theorem sumD1 (M : Memref sig .tc .vmem S3x2048x2048 .bf16) (h : M.IsWhole) (N : Memref sig .tc .vmem S256x2048 .f32) (ht : 16 ≤ t.val % 26) (i : Fin 256) (j : Fin 512) :
    runD.sl.v72 c (grid0.coords t) M h N h4 b (ix2 i j) = (0 : EReal) := by
  have hs : t.val % 26 < 26 := Nat.mod_lt _ (by omega)
  refine Eq.trans (congrArg (N.view.read (Elt Ideal) _) (?_ : _ = ix2 i ⟨512 + j.val, by omega⟩)) ((sums_read1 N.view _ _ _ _ _ i j).trans ?_)
  · funext a
    fin_cases a
    · exact Fin.ext (by show 0 + 1 * i.val = i.val; omega)
    · exact Fin.ext (by show 512 + 1 * j.val = 512 + j.val; omega)
  · exact pay6_apply _ _ _ (fun i k => (ld_xs M h b 1 _ (srow_lt _) _ (off20 t ht) i k).trans (hz _ _ _ (by decide))) (fun i k => (ld_xs M h b 2 _ (srow_lt _) _ (off21 t ht) i k).trans (hz _ _ _ (by decide))) i j

theorem gD0 (ht : 16 ≤ t.val % 26) (i : Fin 256) (j : Fin 512) :
    gD c t h1 h2 h3 h4 h5 y b d (ix3 0 ⟨0 + i.val, by omega⟩ j)
      = ∑ k : Fin 2048, b (ix3 0 ⟨512 * srow (t.val % 26) + (256 + i.val), by have := srow_lt (t.val % 26); omega⟩ k)
          * b (ix3 0 ⟨512 * scol (t.val % 26) + j.val, by have := scol_lt (t.val % 26) (Nat.mod_lt _ (by omega)); omega⟩ k) := by
  have hs : t.val % 26 < 26 := Nat.mod_lt _ (by omega)
  unfold gD
  refine (g_read0 (ms3 t).view _ _ _ _ _ i j).trans ((pay9_apply _ _ _ i j).trans ?_)
  refine (congrArg₂ (· + ·) (sumD1 c t h4 b hz sc1 hsc1 sc2 ht i j) (Finset.sum_congr rfl fun k _ => congrArg₂ (· * ·)
    (ld_xs sc1 hsc1 b 0 _ (srow_lt _) _ (off22 t ht) _ k) (ld_xs sc1 hsc1 b 0 _ (scol_lt _ hs) _ (off23 t ht) j k))).trans ?_
  rw [zero_add]

theorem gD1 (ht : 16 ≤ t.val % 26) (i : Fin 256) (j : Fin 512) :
    gD c t h1 h2 h3 h4 h5 y b d (ix3 0 ⟨256 + i.val, by omega⟩ j)
      = ∑ k : Fin 2048, b (ix3 0 ⟨512 * srow (t.val % 26) + (0 + i.val), by have := srow_lt (t.val % 26); omega⟩ k)
          * b (ix3 0 ⟨512 * scol (t.val % 26) + j.val, by have := scol_lt (t.val % 26) (Nat.mod_lt _ (by omega)); omega⟩ k) := by
  have hs : t.val % 26 < 26 := Nat.mod_lt _ (by omega)
  unfold gD
  refine (g_read1 (ms3 t).view _ _ _ _ _ i j).trans ((pay8_apply _ _ _ i j).trans ?_)
  refine (congrArg₂ (· + ·) (sumD0 c t h4 b hz sc1 hsc1 sc2 ht i j) (Finset.sum_congr rfl fun k _ => congrArg₂ (· * ·)
    (ld_xs sc1 hsc1 b 0 _ (srow_lt _) _ (off22 t ht) _ k) (ld_xs sc1 hsc1 b 0 _ (scol_lt _ hs) _ (off23 t ht) j k))).trans ?_
  rw [zero_add]
  simp only [zero_add]
end D

end Cert.PowerGramIdeal.Math

end
-- ==== Proof.PowerGramIdeal.Track.lean ====
/-
  What is known of the scratch between two points, and of the two output blocks after each: the invariant that carries the
  product from its column blocks to the Gram matrix.
-/
module

public import proofs.«01_k».proof.Proof.PowerGramIdeal.Spec
public import proofs.«01_k».proof.Proof.PowerGramIdeal.PointA
public import proofs.«01_k».proof.Proof.PowerGramIdeal.PointB
public import proofs.«01_k».proof.Proof.PowerGramIdeal.PointCD

@[expose] public section

set_option maxRecDepth 16384

noncomputable section

open Idealize.ShloMosaic Idealize.ShloMosaic.TcCoe Idealize.SL.Sem

namespace Cert.PowerGramIdeal.Math

open Cert.PowerGramIdeal Cert.PowerGramIdeal.Gen Cert.PowerGramSpec

variable (m : (ℓ : Loc nD τ sig) → Buf (Elt Ideal) ℓ)

/-- The product's row that row `r` of the row block of point `n` is. -/
abbrev rowOf (n : ℕ) (r : Fin 256) : Fin 2048 := ⟨256 * min (n % 26 / 2) 7 + r.val, by omega⟩

/-- The row of the second result that row `i` of the superblock of point `n` is. -/
abbrev gRow (n : ℕ) (i : Fin 512) : Fin 2048 := ⟨512 * (3 - srow (n % 26)) + i.val, by omega⟩
/-- Its column that column `j` of the superblock is. -/
abbrev gCol (n : ℕ) (j : Fin 512) : Fin 2048 := ⟨512 * scol (n % 26) + j.val, by have := scol_lt (n % 26) (Nat.mod_lt _ (by omega)); omega⟩

/-- Between two points: after an even step below 16 the last third of the split is the row block and the partial product is
    zero; the kept parts of the finished column blocks are the product and zeros. -/
structure Inv (c : Dev nD) (n : ℕ) (a : Vec Ideal S256x6144 .bf16) (b : Vec Ideal S3x2048x2048 .bf16) (d : Vec Ideal S256x2048 .f32) : Prop where
  split : n % 26 < 16 → n % 2 = 1 → ∀ (r : Fin 256) (k : Fin 2048), a (ix2 r ⟨4096 + k.val, by omega⟩) = A0 m c (ix3 (bat n) (rowOf n r) k)
  part : n % 26 < 16 → n % 2 = 1 → ∀ (r : Fin 256) (l : Fin 2048), d (ix2 r l) = (0 : EReal)
  kept : ∀ (p : Fin 3) (j k : Fin 2048), k.val < 256 * (n % 26 / 2) → b (ix3 p j k) = if p = 0 then prod (A0 m c) (A1 m c) (bat n) k j else (0 : EReal)

/-- The first result's block: an odd step below 16 leaves the product's rows, transposed; a step from 16 on leaves what it found. -/
structure Out2 (c : Dev nD) (t : Fin cfg0.N) (Y X : Vec Ideal S1x2048x256 .f32) : Prop where
  new : t.val % 26 < 16 → t.val % 2 = 1 → ∀ (j : Fin 2048) (r : Fin 256), X (ix3 0 j r) = prod (A0 m c) (A1 m c) (bat t.val) (rowOf t.val r) j
  old : 16 ≤ t.val % 26 → X = Y

/-- The second result's block: a step from 16 on leaves its superblock of the Gram matrix. -/
def Out3 (c : Dev nD) (t : Fin cfg0.N) (Y X : Vec Ideal S1x512x512 .f32) : Prop :=
  16 ≤ t.val % 26 → ∀ i j : Fin 512, X (ix3 0 i j) = gram (A0 m c) (A1 m c) (bat t.val) (panel (gRow t.val i)) (gCol t.val j)

def track (c : Dev nD) : Track Ideal := ⟨Inv m c, Out2 m c, Out3 m c⟩

theorem bat_succ (n : ℕ) (h : n % 26 ≠ 25) : bat (n + 1) = bat n := Fin.ext (by show (n + 1) / 26 % 12 = n / 26 % 12; omega)

theorem half_succ (n : ℕ) (h : n % 2 = 0) : (n + 1) % 26 / 2 = n % 26 / 2 := by omega

theorem real_prod (c : Dev nD) (h0 : ∀ j, IsReal (A0 m c j)) (h1 : ∀ j, IsReal (A1 m c j)) (b : Fin 12) (k j : Fin 2048) :
    IsReal (prod (A0 m c) (A1 m c) b k j) := IsReal.sum _ _ fun i => IsReal.mul (h0 _) (h1 _)

/-- The Gram sum over the kept parts of the whole product. -/
theorem kept_gram (c : Dev nD) (n : ℕ) (a : Vec Ideal S256x6144 .bf16) (b : Vec Ideal S3x2048x2048 .bf16) (d : Vec Ideal S256x2048 .f32)
    (hI : Inv m c n a b d) (hn : 16 ≤ n % 26) (i j : Fin 2048) :
    ∑ k : Fin 2048, b (ix3 0 i k) * b (ix3 0 j k) = gram (A0 m c) (A1 m c) (bat n) i j :=
  Finset.sum_congr rfl fun k _ => congrArg₂ (· * ·) ((hI.kept 0 i k (by omega)).trans (if_pos rfl)) ((hI.kept 0 j k (by omega)).trans (if_pos rfl))

/-- A superblock from its two halves. -/
theorem out3_of (c : Dev nD) (t : Fin cfg0.N) (a : Vec Ideal S256x6144 .bf16) (b : Vec Ideal S3x2048x2048 .bf16) (d : Vec Ideal S256x2048 .f32)
    (hI : Inv m c t.val a b d) (Y X : Vec Ideal S1x512x512 .f32)
    (e0 : ∀ (i : Fin 256) (j : Fin 512), X (ix3 0 ⟨0 + i.val, by omega⟩ j) = ∑ k : Fin 2048, b (ix3 0 ⟨512 * srow (t.val % 26) + (256 + i.val), by have := srow_lt (t.val % 26); omega⟩ k)
          * b (ix3 0 ⟨512 * scol (t.val % 26) + j.val, by have := scol_lt (t.val % 26) (Nat.mod_lt _ (by omega)); omega⟩ k))
    (e1 : ∀ (i : Fin 256) (j : Fin 512), X (ix3 0 ⟨256 + i.val, by omega⟩ j) = ∑ k : Fin 2048, b (ix3 0 ⟨512 * srow (t.val % 26) + (0 + i.val), by have := srow_lt (t.val % 26); omega⟩ k)
          * b (ix3 0 ⟨512 * scol (t.val % 26) + j.val, by have := scol_lt (t.val % 26) (Nat.mod_lt _ (by omega)); omega⟩ k)) :
    Out3 m c t Y X := fun ht i j => by
  have hr := srow_lt (t.val % 26)
  by_cases hi : i.val < 256
  · have hX := (e0 ⟨i.val, hi⟩ j).trans (kept_gram m c t.val a b d hI ht _ _)
    rw [show (⟨0 + (⟨i.val, hi⟩ : Fin 256).val, by omega⟩ : Fin 512) = i from Fin.ext (Nat.zero_add _)] at hX
    refine hX.trans (congrArg (fun q => gram (A0 m c) (A1 m c) (bat t.val) q (gCol t.val j)) (Fin.ext ?_))
    show 512 * srow (t.val % 26) + (256 + i.val) = 256 * (7 - (512 * (3 - srow (t.val % 26)) + i.val) / 256) + (512 * (3 - srow (t.val % 26)) + i.val) % 256
    omega
  · have hX := (e1 ⟨i.val - 256, by omega⟩ j).trans (kept_gram m c t.val a b d hI ht _ _)
    rw [show (⟨256 + (⟨i.val - 256, by omega⟩ : Fin 256).val, by show 256 + (i.val - 256) < 512; omega⟩ : Fin 512) = i from Fin.ext (by show 256 + (i.val - 256) = i.val; omega)] at hX
    refine hX.trans (congrArg (fun q => gram (A0 m c) (A1 m c) (bat t.val) q (gCol t.val j)) (Fin.ext ?_))
    show 512 * srow (t.val % 26) + (0 + (i.val - 256)) = 256 * (7 - (512 * (3 - srow (t.val % 26)) + i.val) / 256) + (512 * (3 - srow (t.val % 26)) + i.val) % 256
    omega

/-- A superblock keeps the kept parts. -/
theorem inv_hold (c : Dev nD) (t : Fin cfg0.N) (ht : 16 ≤ t.val % 26) (a : Vec Ideal S256x6144 .bf16) (b : Vec Ideal S3x2048x2048 .bf16)
    (d d' : Vec Ideal S256x2048 .f32) (hI : Inv m c t.val a b d) : Inv m c (t.val + 1) a b d' where
  split := fun h1 h2 => by omega
  part := fun h1 h2 => by omega
  kept := fun p j k hk => by
    have h25 : t.val % 26 ≠ 25 := fun h => by have : (t.val + 1) % 26 = 0 := by omega
                                              rw [this] at hk; omega
    rw [bat_succ _ h25]
    exact hI.kept p j k (by omega)

theorem zeros_of (c : Dev nD) (t : Fin cfg0.N) (ht : 16 ≤ t.val % 26) (a : Vec Ideal S256x6144 .bf16) (b : Vec Ideal S3x2048x2048 .bf16)
    (d : Vec Ideal S256x2048 .f32) (hI : Inv m c t.val a b d) (p : Fin 3) (j k : Fin 2048) (hp : p ≠ 0) : b (ix3 p j k) = (0 : EReal) :=
  (hI.kept p j k (by omega)).trans (if_neg hp)

/-- The product of the kept row block and the second factor's block. -/
theorem pv_eq (c : Dev nD) (t : Fin cfg0.N) (a : Vec Ideal S256x6144 .bf16) (b : Vec Ideal S3x2048x2048 .bf16) (d : Vec Ideal S256x2048 .f32)
    (hI : Inv m c t.val a b d) (h1 : t.val % 26 < 16) (h2 : t.val % 2 = 1) (r : Fin 256) (l : Fin 2048) :
    pv a (iblk m c 1 t) r l = prod (A0 m c) (A1 m c) (bat t.val) (rowOf t.val r) l :=
  Finset.sum_congr rfl fun k _ => congrArg₂ (· * ·) (hI.split h1 h2 r k) (iblk1 m c t k l)

theorem sound (c : Dev nD) (h0 : ∀ j, IsReal (A0 m c j)) (h1' : ∀ j, IsReal (A1 m c j)) : (track m c).Sound m c where
  zero := fun a b d => ⟨fun _ h => absurd h (by decide), fun _ h => absurd h (by decide), fun p j k hk => absurd hk (by simp)⟩
  A := fun t h1 h2 h3 h4 h5 y2 y3 a b d hI => by
    obtain ⟨hs, he⟩ := (cond1_iff t).mp h1
    have hh := half_succ t.val he
    have hb := bat_succ t.val (by omega)
    refine ⟨⟨fun _ _ r k => ?_, fun _ _ r l => ?_, fun p j k hk => ?_⟩, ⟨fun _ h => by omega, fun h => by omega⟩, fun h => by omega⟩
    · refine (ssA_apply c t h1 h2 h3 h4 h5 _ _ a d r k).trans ((iblk0 m c t r k).trans ?_)
      rw [hb]
      exact congrArg (fun q => A0 m c (ix3 (bat t.val) q k)) (Fin.ext (by show 256 * min (t.val % 26 / 2) 7 + r.val = 256 * min ((t.val + 1) % 26 / 2) 7 + r.val; rw [hh]))
    · exact tmpA_apply c t h1 h2 h3 h4 h5 _ _ a d (fun r k => real_of (iblk0 m c t r k) (h0 _)) r l
    · rw [hb]
      exact hI.kept p j k (by rw [← hh]; exact hk)
  B := fun t h1 h2 h3 h4 h5 y2 y3 a b d hI => by
    obtain ⟨hs, ho⟩ := (cond2_iff t).mp h2
    have ho : t.val % 2 = 1 := by omega
    have hb := bat_succ t.val (by omega)
    have hd := hI.part hs ho
    have hpv := pv_eq m c t a b d hI hs ho
    refine ⟨⟨fun _ h => by omega, fun _ h => by omega, fun p j k hk => ?_⟩, ⟨fun _ _ j r => ?_, fun h => by omega⟩, fun h => by omega⟩
    · rw [hb]
      by_cases hk' : k.val < 256 * (t.val % 26 / 2)
      · exact (xsB_old c t h1 h2 h3 h4 h5 _ y2 a b d hs p j k hk').trans (hI.kept p j k hk')
      · have hlt : k.val - 256 * (t.val % 26 / 2) < 256 := by omega
        refine (xsB_new c t h1 h2 h3 h4 h5 _ y2 a b d hd hs (fun r l => real_of (hpv r l) (real_prod m c h0 h1' _ _ _)) p j ⟨k.val - 256 * (t.val % 26 / 2), hlt⟩ k (by show k.val = 256 * (t.val % 26 / 2) + (k.val - 256 * (t.val % 26 / 2)); omega)).trans ?_
        refine congrArg (fun x => if p = 0 then x else (0 : EReal)) ((hpv _ _).trans ?_)
        exact congrArg (fun q => prod (A0 m c) (A1 m c) (bat t.val) q j) (Fin.ext (by
          show 256 * min (t.val % 26 / 2) 7 + (k.val - 256 * (t.val % 26 / 2)) = k.val; omega))
    · exact (xB_apply c t h1 h2 h3 h4 h5 _ y2 a b d hd j r).trans (hpv r j)
  C := fun t h1 h2 h3 h4 h5 y2 y3 a b d hI => by
    have ht : 16 ≤ t.val % 26 := by have := (cond5_iff t).mp h5; omega
    have hz := fun p j k hp => zeros_of m c t ht a b d hI p j k hp
    exact ⟨inv_hold m c t ht a b d _ hI, ⟨fun h => by omega, fun _ => rfl⟩,
      out3_of m c t a b d hI y3 _ (gC0 c t h1 h2 h3 h4 h5 y3 b d hz ht) (gC1 c t h1 h2 h3 h4 h5 y3 b d hz ht)⟩
  D := fun t h1 h2 h3 h4 h5 y2 y3 a b d hI => by
    have ht : 16 ≤ t.val % 26 := by have := (cond5_iff t).mp h5; omega
    have hz := fun p j k hp => zeros_of m c t ht a b d hI p j k hp
    exact ⟨inv_hold m c t ht a b d _ hI, ⟨fun h => by omega, fun _ => rfl⟩,
      out3_of m c t a b d hI y3 _ (gD0 c t h1 h2 h3 h4 h5 y3 b d hz ht) (gD1 c t h1 h2 h3 h4 h5 y3 b d hz ht)⟩

end Cert.PowerGramIdeal.Math

end
-- ==== Proof.PowerGramIdeal.Final.lean ====
/-
  The two arrays the power and Gram step leaves: the product's transpose whole, and the Gram matrix in the superblocks the
  grid writes.
-/
module

public import proofs.«01_k».proof.Proof.PowerGramIdeal.Track
public import Idealize.ShloMosaic.Lib.Pipeline.ArrRel
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (RDat Dat)

namespace Cert.PowerGramIdeal.Math

open Cert.PowerGramIdeal Cert.PowerGramIdeal.Gen Cert.PowerGramSpec

variable (m : (ℓ : Loc nD τ sig) → Buf (Elt Ideal) ℓ) (ρ : Dev nD → PrngReg)

/-- When the first result's buffer is written back: after the odd steps below 16, but not after the last of them, and after the
    last step. -/
theorem flush2 : ∀ t : Fin cfg0.N, (cfg0.win 2).flush t = true ↔ (t.val % 26 < 15 ∧ t.val % 2 = 1) ∨ t.val % 26 = 25 :=
  (by decide +kernel : ∀ t : Fin grid0.N, win0_2.flush t = true ↔ _)

theorem fetch2 : ∀ t : Fin cfg0.N, (cfg0.win 2).fetch t = false :=
  (by decide +kernel : ∀ t : Fin grid0.N, win0_2.fetch t = false)

/-- The second result's buffer is written back after each superblock, and at no other step. -/
theorem flush3 : ∀ t : Fin cfg0.N, (cfg0.win 3).flush t = true → 16 ≤ t.val % 26 :=
  (by decide +kernel : ∀ t : Fin grid0.N, win0_3.flush t = true → _)

/-- What the first result's buffer holds from an odd step on. -/
theorem leaves2 (c : Dev nD) : ∀ (n : ℕ) (h : n < cfg0.N) (X : Vec Ideal S1x2048x256 .f32), (rdat m (track m c) c).Leaves 2 ⟨n, h⟩ X →
    ((n % 26 < 16 ∧ n % 2 = 1) ∨ 16 ≤ n % 26) → ∀ (j : Fin 2048) (r : Fin 256), X (ix3 0 j r) = prod (A0 m c) (A1 m c) (bat n) (rowOf n r) j
  | n, h, X, ⟨Y, hY, hX⟩, hn => fun j r => by
    have hX' : Out2 m c ⟨n, h⟩ Y X := hX
    rcases hn with hn | hn
    · exact hX'.new hn.1 hn.2 j r
    · obtain ⟨k, rfl⟩ : ∃ k, n = k + 1 := ⟨n - 1, by omega⟩
      have hk : k < cfg0.N := by omega
      have e : X = Y := hX'.old hn
      have hL : (rdat m (track m c) c).Leaves 2 ⟨k, hk⟩ Y := by
        rcases (RDat.finds_of_pos _ (fetch2 ⟨k + 1, h⟩) (Nat.succ_ne_zero k) Y).mp hY with hf | hL
        · exact absurd ((flush2 ⟨k, hk⟩).mp hf) (by dsimp only; omega)
        · exact hL
      have ih := leaves2 c k hk Y hL (by omega) j r
      rw [e, ih, show bat k = bat (k + 1) from (bat_succ k (by omega)).symm]
      exact congrArg (fun q => prod (A0 m c) (A1 m c) (bat (k + 1)) q j) (Fin.ext (by
        show 256 * min (k % 26 / 2) 7 + r.val = 256 * min ((k + 1) % 26 / 2) 7 + r.val; omega))

/-- What the second result's buffer holds after a superblock. -/
theorem leaves3 (c : Dev nD) (t : Fin cfg0.N) (ht : 16 ≤ t.val % 26) (X : Vec Ideal S1x512x512 .f32) (hX : (rdat m (track m c) c).Leaves 3 t X) (i j : Fin 512) :
    X (ix3 0 i j) = gram (A0 m c) (A1 m c) (bat t.val) (panel (gRow t.val i)) (gCol t.val j) := by
  obtain ⟨Y, _, h⟩ := hX
  exact (show Out3 m c t Y X from h) ht i j

/-- The first result, whole. -/
theorem arr2 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m (track m c) c).Leaves w u (after w u)) :
    ((rdat m (track m c) c).withAfter after).arrAt 2 cfg0.N = RX (A0 m c) (A1 m c) := by
  refine ((rdat m (track m c) c).withAfter after).arrAt_eq_of_covers 2 _ (by decide +kernel) fun t hf y => ?_
  obtain ⟨a, j, r, rfl⟩ : ∃ (a : Fin 1) (j : Fin 2048) (r : Fin 256), y = ix3 a j r := ⟨y 0, y 1, y 2, eq_ix3 y⟩
  have hv := leaves2 m c t.val t.isLt (after 2 t) (hL 2 t hf) (by have := (flush2 t).mp hf; omega) j r
  obtain rfl : a = 0 := Subsingleton.elim _ _
  blk_simp
  refine (hv.trans (show _ = RX (A0 m c) (A1 m c) (ix3 (bat t.val) j (rowOf t.val r)) from rfl)).trans (congrArg (RX (A0 m c) (A1 m c)) ?_)
  blk_ext [idxFacts t, bat_val t]

/-- The second result, in the superblocks on and below the diagonal. -/
theorem arr3 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m (track m c) c).Leaves w u (after w u))
    (b : Fin 12) (i j : Fin 2048) (hij : i.val / 512 + j.val / 512 ≤ 3) :
    ((rdat m (track m c) c).withAfter after).arrAt 3 cfg0.N (ix3 b i j) = RG (A0 m c) (A1 m c) (ix3 b i j) := by
  refine (((rdat m (track m c) c).withAfter after).arrAt_apply_of_coversWhere 3 (RG (A0 m c) (A1 m c))
    (P := fun y : (⟨3, ![12, 2048, 2048]⟩ : Shape).Idx => (y 1).val / 512 + (y 2).val / 512 ≤ 3)
    (fun β : Fin 3 → ℕ => β 1 + β 2 ≤ 3) (by decide +kernel) (fun t hf y => ?_) (fun y => Iff.rfl) (ix3 b i j)).trans (if_pos hij)
  obtain ⟨a, r, l, rfl⟩ : ∃ (a : Fin 1) (r l : Fin 512), y = ix3 a r l := ⟨y 0, y 1, y 2, eq_ix3 y⟩
  have hv := leaves3 m c t (flush3 t hf) (after 3 t) (hL 3 t hf) r l
  obtain rfl : a = 0 := Subsingleton.elim _ _
  blk_simp
  refine (hv.trans (show _ = RG (A0 m c) (A1 m c) (ix3 (bat t.val) (gRow t.val r) (gCol t.val l)) from rfl)).trans (congrArg (RG (A0 m c) (A1 m c)) ?_)
  blk_ext [idxFacts t, bat_val t]

/-- The run: the first result whole, the second in the superblocks on and below the diagonal, the arguments as they were. -/
theorem run (h0 : ∀ c j, IsReal (A0 m c j)) (h1 : ∀ c j, IsReal (A1 m c j)) :
    θ_run (defs (F := Ideal)) (onTc (τ := τ) (main (F := Ideal))) ⟨m, fun _ => 0, ρ⟩ fun r => ∀ c : Dev nD,
      r.2.mem ((c.tc : Thread nD τ).loc main_v0_0) = RX (A0 m c) (A1 m c)
      ∧ (∀ (b : Fin 12) (i j : Fin 2048), i.val / 512 + j.val / 512 ≤ 3 →
          (r.2.mem ((c.tc : Thread nD τ).loc main_v0_1) : FVec Ideal S12x2048x2048 .f32) (ix3 b i j) = RG (A0 m c) (A1 m c) (ix3 b i j))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => by
    obtain ⟨after, hL, hA⟩ := RDat.FramePost.exists_exact h.1 c
    refine ⟨(hA 2).trans (arr2 m c after hL), fun b i j hij => ?_, args_kept m (track m) r h.1 c⟩
    exact (congrFun (hA 3) (ix3 b i j)).trans (arr3 m c after hL b i j hij))
    (run_track m ρ (track m) fun c => sound m c (h0 c) (h1 c))

end Cert.PowerGramIdeal.Math

end
-- ==== Proof.PowerGramIdeal.Mask.lean ====
/-
  The precondition and the mask of the power and Gram step, read at an index: every entry of the two arguments is a real
  number, and the second result is claimed in the superblocks on and below the diagonal.
-/
module

public import proofs.«01_k».proof.Proof.PowerGramIdeal.Payload
public import proofs.«01_k».proof.Proof.Gen.Pre_finite
public import proofs.«01_k».proof.Proof.Gen.On_lower_blocks
public import Idealize.ShloMosaic.Lib.ReduceAll

@[expose] public section

set_option maxRecDepth 16384

noncomputable section

open Idealize.ShloMosaic

namespace Cert.PowerGramIdeal.Math

/-- An extended real whose absolute value is below the infinity is a real number. -/
theorem real_of_abs_lt {x : EReal} (h : FloatOps.cmpf (F := Ideal) (φ := .f32) .olt (FloatOps.absf (F := Ideal) (φ := .f32) x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | top => simp [Ideal.cmp] at h'
  | coe r => exact ⟨r, rfl⟩

/-- The precondition says that every entry of both arguments is a real number. -/
theorem finite_real [Cert.Pre_finite.Facts] (a0 : FVec Ideal Cert.Pre_finite.S12x2048x2048 .f32) (a1 : FVec Ideal Cert.Pre_finite.S12x2048x2048 .bf16)
    (h : Cert.Pre_finite.fn (F := Ideal) a0 a1 = fun _ => 1#1) : (∀ j, IsReal (a0 j)) ∧ ∀ j, IsReal (a1 j) := by
  have e := congrFun h (fun a => a.elim0)
  have : Subsingleton Cert.Pre_finite.S_.Idx := ⟨fun a b => funext fun i => i.elim0⟩
  obtain ⟨e0, e1⟩ := IntOp.andi_eq_one.mp e
  exact ⟨fun j => real_of_abs_lt (Host.reduce_andi_all _ _ _ _ _ e0 j), fun j => real_of_abs_lt (Host.reduce_andi_all _ _ _ _ _ e1 j)⟩

/-- The floor of the quotient of a row or column by 512, as the mask computes it. -/
def quot [Cert.On_lower_blocks.Facts] (n : ℕ) : BitVec 32 :=
  Cert.On_lower_blocks.fn_floor_divide (F := Ideal) (fun _ => BitVec.ofNat 32 n) (constantI Cert.On_lower_blocks.S_ 32 512#32) (ix3 0 0 0)

theorem quot_all : ∀ n : Fin 2048, @quot Cert.On_lower_blocks.Gen.facts n.val = BitVec.ofNat 32 (n.val / 512) := by
  decide +kernel

theorem quot_eq [Cert.On_lower_blocks.Facts] (n : Fin 2048) : quot n.val = BitVec.ofNat 32 (n.val / 512) := quot_all n

theorem le_of_sle : ∀ x y : Fin 4, IntOp.cmpi .sle (BitVec.ofNat 32 x.val) (3#32 - BitVec.ofNat 32 y.val) = 1#1 → x.val + y.val ≤ 3 := by
  decide +kernel

/-- Where the second mask is set. -/
theorem mask_lower [Cert.On_lower_blocks.Facts] (a0 : FVec Ideal Cert.On_lower_blocks.S12x2048x2048 .f32) (a1 : FVec Ideal Cert.On_lower_blocks.S12x2048x2048 .bf16)
    (b : Fin 12) (i j : Fin 2048) (h : (Cert.On_lower_blocks.fn (F := Ideal) a0 a1).2 (ix3 b i j) = 1#1) : i.val / 512 + j.val / 512 ≤ 3 := by
  have h' : IntOp.cmpi .sle (quot j.val) (3#32 - quot i.val) = 1#1 := h
  rw [quot_eq, quot_eq] at h'
  have := le_of_sle ⟨j.val / 512, by omega⟩ ⟨i.val / 512, by omega⟩ h'
  dsimp only at this
  omega

end Cert.PowerGramIdeal.Math

end
-- ==== Proof.PowerGramIdeal.Reference.lean ====
/-
  The reference of the power and Gram step, read at an index: its two result arrays are the functions of the arguments that
  `PowerGramSpec` states.
-/
module

public import proofs.«01_k».proof.Proof.PowerGramIdeal.Spec
public import proofs.«01_k».proof.Proof.Gen.PowerGramReferenceIdeal.Run

@[expose] public section

set_option maxRecDepth 16384

noncomputable section

open Idealize.ShloMosaic

namespace Cert.PowerGramReferenceIdeal.Math

open Cert.PowerGramReferenceIdeal Cert.PowerGramReferenceIdeal.Gen Cert.PowerGramSpec

variable (a0 : FVec Ideal S12x2048x2048 .f32) (a1 : FVec Ideal S12x2048x2048 .bf16)

/-- The reference's product. -/
def P : FVec Ideal S12x2048x2048 .f32 :=
  Host.dotGeneral dot_S12x2048x2048_S12x2048x2048_S12x2048x2048_2_1_1_2_0_0 (some .fp32) a0 (extf .f32 a1 bitsLt_bf16_f32)

theorem P_apply (b : Fin 12) (k j : Fin 2048) : P a0 a1 (ix3 b k j) = prod a0 a1 b k j := by
  pointwise [P, prod]

/-- The first result. -/
theorem v4_eq : transpose S12x2048x2048 [0, 2, 1] (P a0 a1) transposes_S12x2048x2048_S12x2048x2048_0_2_1 = RX a0 a1 := by
  funext y
  obtain ⟨b, i, j, rfl⟩ : ∃ (b : Fin 12) (i j : Fin 2048), y = ix3 b i j := ⟨y 0, y 1, y 2, eq_ix3 y⟩
  refine Eq.trans ?_ (P_apply a0 a1 b j i)
  pointwise []

/-- The Gram matrix of a product. -/
theorem gram_apply (p : FVec Ideal S12x2048x2048 .f32) (b : Fin 12) (i j : Fin 2048) :
    Host.dotGeneral dot_S12x2048x2048_S12x2048x2048_S12x2048x2048_1_1_2_2_0_0 (some .fp32) p p (ix3 b i j) = ∑ k : Fin 2048, p (ix3 b k i) * p (ix3 b k j) := by
  pointwise []

/-- The panels in reverse order. -/
theorem flip_apply (g : FVec Ideal S12x2048x2048 .f32) (b : Fin 12) (i j : Fin 2048) :
    shapeCast S12x2048x2048 (Host.reverse [1] (shapeCast S12x8x256x2048 g shapeCasts_S12x2048x2048_S12x8x256x2048)) shapeCasts_S12x8x256x2048_S12x2048x2048 (ix3 b i j)
      = g (ix3 b (panel i) j) := by
  pointwise [panel]
  exact congrArg (fun q => g (ix3 b q j)) (Fin.ext (by
    show (8 - (i.val / 256 + 1)) * 256 + i.val % 256 = 256 * (7 - i.val / 256) + i.val % 256
    omega))

/-- The second result. -/
theorem v6_eq : shapeCast S12x2048x2048 (Host.reverse [1] (shapeCast S12x8x256x2048
      (Host.dotGeneral dot_S12x2048x2048_S12x2048x2048_S12x2048x2048_1_1_2_2_0_0 (some .fp32) (P a0 a1) (P a0 a1))
      shapeCasts_S12x2048x2048_S12x8x256x2048)) shapeCasts_S12x8x256x2048_S12x2048x2048 = RG a0 a1 := by
  funext y
  obtain ⟨b, i, j, rfl⟩ : ∃ (b : Fin 12) (i j : Fin 2048), y = ix3 b i j := ⟨y 0, y 1, y 2, eq_ix3 y⟩
  refine (flip_apply _ b i j).trans ((gram_apply _ b (panel i) j).trans ?_)
  exact Finset.sum_congr rfl fun k _ => congrArg₂ (· * ·) (P_apply a0 a1 b k (panel i)) (P_apply a0 a1 b k j)

end Cert.PowerGramReferenceIdeal.Math

end
-- ==== Proof.lean ====
/-
  The proof of `Cert.Claim`: the frames from the runs, the finishing kernel's three arrays as those of its reference, and the
  power and Gram kernel's two arrays as those of its reference, the second one in the superblocks that are computed.
-/
module

public import proofs.«01_k».proof.Defs
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal.Value
public import proofs.«01_k».proof.Proof.Gen.FinishReferenceIdeal.Value
public import proofs.«01_k».proof.Proof.Gen.PowerGram
public import proofs.«01_k».proof.Proof.Gen.PowerGram.Skeleton
public import proofs.«01_k».proof.Proof.Gen.PowerGram.Launch
public import proofs.«01_k».proof.Proof.Gen.PowerGram.Points
public import proofs.«01_k».proof.Proof.Gen.PowerGram.Frame
public import proofs.«01_k».proof.Proof.Gen.PowerGramIdeal
public import proofs.«01_k».proof.Proof.Gen.PowerGramIdeal.Skeleton
public import proofs.«01_k».proof.Proof.Gen.PowerGramIdeal.Launch
public import proofs.«01_k».proof.Proof.Gen.PowerGramIdeal.Points
public import proofs.«01_k».proof.Proof.Gen.PowerGramIdeal.Frame
public import proofs.«01_k».proof.Proof.Gen.PowerGramReferenceIdeal
public import proofs.«01_k».proof.Proof.Gen.Pre_finite
public import proofs.«01_k».proof.Proof.Gen.On_lower_blocks
public import proofs.«01_k».proof.Proof.Gen.PowerGramReferenceIdeal.Run
public import proofs.«01_k».proof.Proof.Finish.Reference
public import proofs.«01_k».proof.Proof.Finish.Run
public import proofs.«01_k».proof.Proof.PowerGram.Body
public import proofs.«01_k».proof.Proof.PowerGramIdeal.Body
public import proofs.«01_k».proof.Proof.PowerGramIdeal.Final
public import proofs.«01_k».proof.Proof.PowerGramIdeal.Mask
public import proofs.«01_k».proof.Proof.PowerGramIdeal.Reference
public import Idealize.ShloMosaic.Lib.Quiescent
public import Idealize.ShloMosaic.PureOps.IdealRules
public import Idealize.ShloMosaic.Lib.Claim
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishReferenceIdeal
public import proofs.«01_k».proof.Proof.Gen.FinishReferenceIdeal.Skeleton
public import proofs.«01_k».proof.Proof.Gen.FinishReferenceIdeal.Launch
public import proofs.«01_k».proof.Proof.Gen.FinishReferenceIdeal.Points
public import proofs.«01_k».proof.Proof.Gen.FinishReferenceIdeal.Frame
public import Idealize.ShloMosaic.Adequacy
public import Idealize.ShloMosaic.Init

@[expose] public section

noncomputable section

namespace Cert.Proof

open Idealize.ShloMosaic Idealize.ShloMosaic.TcCoe Idealize.SL.Sem

/-- The run of the finishing kernel: its three arrays, and its arguments as they were. -/
theorem finish_run (m : (ℓ : Loc Cert.FinishIdeal.nD Cert.FinishIdeal.τ Cert.FinishIdeal.sig) → Buf (Elt Ideal) ℓ) (ρ : Dev Cert.FinishIdeal.nD → PrngReg) :
    θ_run (Cert.FinishIdeal.defs (F := Ideal)) (onTc (τ := Cert.FinishIdeal.τ) (Cert.FinishIdeal.main (F := Ideal))) ⟨m, fun _ => 0, ρ⟩ fun r => ∀ c : Dev Cert.FinishIdeal.nD,
      r.2.mem ((c.tc : Thread Cert.FinishIdeal.nD Cert.FinishIdeal.τ).loc Cert.FinishIdeal.main_v0_0) = Cert.FinishSpec.R4 (m ((c.tc : Thread _ _).loc Cert.FinishIdeal.main_arg0))
      ∧ r.2.mem ((c.tc : Thread Cert.FinishIdeal.nD Cert.FinishIdeal.τ).loc Cert.FinishIdeal.main_v0_1) = Cert.FinishSpec.R5 (m ((c.tc : Thread _ _).loc Cert.FinishIdeal.main_arg0)) (m ((c.tc : Thread _ _).loc Cert.FinishIdeal.main_arg1)) (m ((c.tc : Thread _ _).loc Cert.FinishIdeal.main_arg2)) (m ((c.tc : Thread _ _).loc Cert.FinishIdeal.main_arg3))
      ∧ r.2.mem ((c.tc : Thread Cert.FinishIdeal.nD Cert.FinishIdeal.τ).loc Cert.FinishIdeal.main_v0_2) = Cert.FinishSpec.R6 (m ((c.tc : Thread _ _).loc Cert.FinishIdeal.main_arg0)) (m ((c.tc : Thread _ _).loc Cert.FinishIdeal.main_arg1)) (m ((c.tc : Thread _ _).loc Cert.FinishIdeal.main_arg2)) (m ((c.tc : Thread _ _).loc Cert.FinishIdeal.main_arg3))
      ∧ r.2.mem ((c.tc : Thread Cert.FinishIdeal.nD Cert.FinishIdeal.τ).loc Cert.FinishIdeal.main_arg0) = m ((c.tc : Thread _ _).loc Cert.FinishIdeal.main_arg0)
      ∧ r.2.mem ((c.tc : Thread Cert.FinishIdeal.nD Cert.FinishIdeal.τ).loc Cert.FinishIdeal.main_arg1) = m ((c.tc : Thread _ _).loc Cert.FinishIdeal.main_arg1)
      ∧ r.2.mem ((c.tc : Thread Cert.FinishIdeal.nD Cert.FinishIdeal.τ).loc Cert.FinishIdeal.main_arg2) = m ((c.tc : Thread _ _).loc Cert.FinishIdeal.main_arg2)
      ∧ r.2.mem ((c.tc : Thread Cert.FinishIdeal.nD Cert.FinishIdeal.τ).loc Cert.FinishIdeal.main_arg3) = m ((c.tc : Thread _ _).loc Cert.FinishIdeal.main_arg3) :=
  (θ_run _ _ _).mono (fun _ h c => by
    obtain ⟨h0, h1, h2, k⟩ := h c
    exact ⟨h0.trans (Cert.FinishIdeal.Math.final4 m c), h1.trans (Cert.FinishIdeal.Math.final5 m c), h2.trans (Cert.FinishIdeal.Math.final6 m c), k⟩)
    (Cert.FinishIdeal.Value.run_blocks m ρ)

/-- The finishing kernel computes what its reference computes. -/
theorem finish_algebraic : Cert.algebraic_FinishIdeal_FinishReferenceIdeal (hFinishIdeal := Cert.FinishIdeal.Gen.facts) (hFinishReferenceIdeal := Cert.FinishReferenceIdeal.Gen.facts) := by
  intro m g m' g' _ hag
  refine ⟨_, _, _, finish_run m g, (θ_run _ _ _).mono (fun _ h c => ?_) (Cert.FinishReferenceIdeal.Value.run m' g')⟩
  obtain ⟨h0, h1, h2, k⟩ := h c
  obtain ⟨e0, e1, e2, e3⟩ := hag c
  refine ⟨h0.trans ?_, h1.trans ?_, h2.trans ?_, k⟩
  · rw [Cert.FinishReferenceIdeal.Math.G4_eq, e0]
  · rw [Cert.FinishReferenceIdeal.Math.G5_eq, e0, e1, e2, e3]
  · rw [Cert.FinishReferenceIdeal.Math.G6_eq, e0, e1, e2, e3]

/-- The power and Gram reference runs, its arguments as they were, and no counter is left: it has none. -/
theorem power_gram_reference_frame (m : (ℓ : Loc Cert.PowerGramReferenceIdeal.nD Cert.PowerGramReferenceIdeal.τ Cert.PowerGramReferenceIdeal.sig) → Buf (Elt Ideal) ℓ) (ρ : Dev Cert.PowerGramReferenceIdeal.nD → PrngReg) :
    θ_run (Cert.PowerGramReferenceIdeal.defs (F := Ideal)) (onTc (τ := Cert.PowerGramReferenceIdeal.τ) (Cert.PowerGramReferenceIdeal.main (F := Ideal))) ⟨m, fun _ => 0, ρ⟩ fun r => (∀ c : Dev Cert.PowerGramReferenceIdeal.nD,
      r.2.mem ((c.tc : Thread Cert.PowerGramReferenceIdeal.nD Cert.PowerGramReferenceIdeal.τ).loc Cert.PowerGramReferenceIdeal.main_arg0) = m ((c.tc : Thread _ _).loc Cert.PowerGramReferenceIdeal.main_arg0)
      ∧ r.2.mem ((c.tc : Thread Cert.PowerGramReferenceIdeal.nD Cert.PowerGramReferenceIdeal.τ).loc Cert.PowerGramReferenceIdeal.main_arg1) = m ((c.tc : Thread _ _).loc Cert.PowerGramReferenceIdeal.main_arg1))
      ∧ r.2.sem = fun _ => 0 :=
  (θ_run _ _ _).mono (fun r h => ⟨fun c => (h c).2.2, sem_eq_zero_of_no_sems rfl r.2⟩) (Cert.PowerGramReferenceIdeal.Value.run m ρ)

/-- The power and Gram kernel computes what its reference computes: the transposed product whole, and the Gram matrix, its
    row panels in reverse order, in every superblock the kernel computes. -/
theorem power_gram_algebraic : Cert.algebraic_PowerGramIdeal_PowerGramReferenceIdeal_on_lower_blocks_pre_finite (hPowerGramIdeal := Cert.PowerGramIdeal.Gen.facts) (hPowerGramReferenceIdeal := Cert.PowerGramReferenceIdeal.Gen.facts)
    (hPre_finite := Cert.Pre_finite.Gen.facts) (hOn_lower_blocks := Cert.On_lower_blocks.Gen.facts) := by
  intro m g m' g' hpre hag
  have hr := fun c => Cert.PowerGramIdeal.Math.finite_real _ _ (hpre c)
  refine ⟨fun c => Cert.PowerGramSpec.RX (m ((c.tc : Thread _ _).loc Cert.PowerGramIdeal.main_arg0)) (m ((c.tc : Thread _ _).loc Cert.PowerGramIdeal.main_arg1)),
    fun c => Cert.PowerGramSpec.RG (m ((c.tc : Thread _ _).loc Cert.PowerGramIdeal.main_arg0)) (m ((c.tc : Thread _ _).loc Cert.PowerGramIdeal.main_arg1)),
    (θ_run _ _ _).mono (fun r h c => ?_) (Cert.PowerGramIdeal.Math.run m g (fun c => (hr c).1) (fun c => (hr c).2)),
    (θ_run _ _ _).mono (fun r h c => ?_) (Cert.PowerGramReferenceIdeal.Value.run m' g')⟩
  · obtain ⟨hx, hg, k⟩ := h c
    refine ⟨fun i _ => congrFun hx i, fun i hi => ?_, k⟩
    obtain ⟨b, p, q, rfl⟩ : ∃ (b : Fin 12) (p q : Fin 2048), i = ix3 b p q := ⟨i 0, i 1, i 2, eq_ix3 i⟩
    exact hg b p q (Cert.PowerGramIdeal.Math.mask_lower _ _ b p q hi)
  · obtain ⟨hx, hg, k⟩ := h c
    obtain ⟨e0, e1⟩ := hag c
    refine ⟨fun i _ => ?_, fun i _ => ?_, k⟩
    · exact (congrFun (hx.trans (Cert.PowerGramReferenceIdeal.Math.v4_eq _ _)) i).trans (by rw [e0, e1])
    · exact (congrFun (hg.trans (Cert.PowerGramReferenceIdeal.Math.v6_eq _ _)) i).trans (by rw [e0, e1])

theorem claim : Cert.Claim := ⟨Cert.Finish.Gen.facts, Cert.FinishIdeal.Gen.facts, Cert.FinishReferenceIdeal.Gen.facts,
  Cert.PowerGram.Gen.facts, Cert.PowerGramIdeal.Gen.facts, Cert.PowerGramReferenceIdeal.Gen.facts, Cert.Pre_finite.Gen.facts, Cert.On_lower_blocks.Gen.facts,
  fun m ρ _ => Cert.Finish.Gen.frame m ρ, fun m ρ _ => Cert.FinishIdeal.Gen.frame m ρ,
  fun m ρ _ => Cert.FinishReferenceIdeal.Gen.frame m ρ,
  fun m ρ _ => Cert.PowerGram.Gen.frame m ρ, fun m ρ _ => Cert.PowerGramIdeal.Gen.frame m ρ, fun m ρ _ => Cert.PowerGramIdeal.Gen.frame m ρ,
  fun m ρ _ => power_gram_reference_frame m ρ, fun m ρ _ => power_gram_reference_frame m ρ,
  trivial, finish_algebraic,
  ⟨IdealRules.bf16_pack.statement _, IdealRules.bf16_pack.statement _⟩, power_gram_algebraic⟩

end Cert.Proof

end
